-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x512x8192 : Shape := ⟨3, ![3, 512, 8192]⟩
abbrev S3x512x256 : Shape := ⟨3, ![3, 512, 256]⟩
abbrev S2048x8192 : Shape := ⟨2, ![2048, 8192]⟩
abbrev S2048x256 : Shape := ⟨2, ![2048, 256]⟩
abbrev S1536x8192 : Shape := ⟨2, ![1536, 8192]⟩
abbrev S1536x256 : Shape := ⟨2, ![1536, 256]⟩
abbrev S1536x2048 : Shape := ⟨2, ![1536, 2048]⟩
abbrev S1536x1024 : Shape := ⟨2, ![1536, 1024]⟩
abbrev S2048x1024 : Shape := ⟨2, ![2048, 1024]⟩
abbrev S2x768x128 : Shape := ⟨3, ![2, 768, 128]⟩
abbrev S2x1024x128 : Shape := ⟨3, ![2, 1024, 128]⟩
abbrev S1536x128 : Shape := ⟨2, ![1536, 128]⟩
abbrev S768x128 : Shape := ⟨2, ![768, 128]⟩
abbrev S1x768x128 : Shape := ⟨3, ![1, 768, 128]⟩
abbrev S2048x128 : Shape := ⟨2, ![2048, 128]⟩
abbrev S1024x128 : Shape := ⟨2, ![1024, 128]⟩
abbrev S1x1024x128 : Shape := ⟨3, ![1, 1024, 128]⟩
abbrev S128x128 : Shape := ⟨2, ![128, 128]⟩
abbrev S1x128x128 : Shape := ⟨3, ![1, 128, 128]⟩
abbrev S128x128x1 : Shape := ⟨3, ![128, 128, 1]⟩
abbrev S256x128 : Shape := ⟨2, ![256, 128]⟩
abbrev S512x2048 : Shape := ⟨2, ![512, 2048]⟩
abbrev S512x1024 : Shape := ⟨2, ![512, 1024]⟩
abbrev S3x512x2048 : Shape := ⟨3, ![3, 512, 2048]⟩

abbrev nBuf : Space → Nat
  | .hbm => 8
  | .vmem => 12
  | .smem => 0
  | _ => 0

abbrev bufTy : (tb : Table) → Fin (tcTables nBuf tb) → BufTy
  | .hbm, ⟨0, _⟩ => ⟨S3x512x8192, .fp8e4m3⟩
  | .hbm, ⟨1, _⟩ => ⟨S3x512x256, .i8⟩
  | .hbm, ⟨2, _⟩ => ⟨S2048x8192, .fp8e4m3⟩
  | .hbm, ⟨3, _⟩ => ⟨S2048x256, .i8⟩
  | .hbm, ⟨4, _⟩ => ⟨S1536x8192, .fp8e4m3⟩
  | .hbm, ⟨5, _⟩ => ⟨S1536x256, .i8⟩
  | .hbm, ⟨6, _⟩ => ⟨S1536x2048, .bf16⟩
  | .hbm, ⟨7, _⟩ => ⟨S3x512x2048, .bf16⟩
  | .local _ .vmem, ⟨0, _⟩ => ⟨S1536x1024, .fp8e4m3⟩
  | .local _ .vmem, ⟨1, _⟩ => ⟨S1536x1024, .fp8e4m3⟩
  | .local _ .vmem, ⟨2, _⟩ => ⟨S2048x1024, .fp8e4m3⟩
  | .local _ .vmem, ⟨3, _⟩ => ⟨S2048x1024, .fp8e4m3⟩
  | .local _ .vmem, ⟨4, _⟩ => ⟨S1536x256, .i8⟩
  | .local _ .vmem, ⟨5, _⟩ => ⟨S2048x256, .i8⟩
  | .local _ .vmem, ⟨6, _⟩ => ⟨S1536x2048, .bf16⟩
  | .local _ .vmem, ⟨7, _⟩ => ⟨S1536x2048, .f32⟩
  | .local _ .vmem, ⟨8, _⟩ => ⟨S1536x1024, .bf16⟩
  | .local _ .vmem, ⟨9, _⟩ => ⟨S2048x1024, .bf16⟩
  | .local _ .vmem, ⟨10, _⟩ => ⟨S2x768x128, .i32⟩
  | .local _ .vmem, ⟨11, _⟩ => ⟨S2x1024x128, .i32⟩
  | _, _ => ⟨S3x512x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![8], ![false]⟩

def k0_off1 (i : grid0.Coords) (c0_i32_6 : BitVec 32) : Fin 3 → Nat :=
  let arg0 : BitVec 32 := BitVec.ofNat 32 (i 0).val
  let c8_i32 : BitVec 32 := 8#32
  let v28 : BitVec 32 := Scalar.muli arg0 c8_i32
  let v29 : BitVec 32 := Scalar.addi v28 c0_i32_6
  let c0_i32_8 : BitVec 32 := 0#32
  let v31 : BitVec 1 := Scalar.cmpi .sgt v29 c0_i32_8
  let v32 : BitVec 32 := Scalar.extui v31
  let c0_i32_9 : BitVec 32 := 0#32
  let v33 : BitVec 1 := Scalar.cmpi .slt v29 c0_i32_9
  let v34 : BitVec 32 := Scalar.extui v33
  let v35 : BitVec 32 := Scalar.subi v32 v34
  let c32_i32_7 : BitVec 32 := 32#32
  let c0_i32_10 : BitVec 32 := 0#32
  let v36 : BitVec 1 := Scalar.cmpi .sgt c32_i32_7 c0_i32_10
  let v37 : BitVec 32 := Scalar.extui v36
  let c0_i32_11 : BitVec 32 := 0#32
  let v38 : BitVec 1 := Scalar.cmpi .slt c32_i32_7 c0_i32_11
  let v39 : BitVec 32 := Scalar.extui v38
  let v40 : BitVec 32 := Scalar.subi v37 v39
  let v41 : BitVec 1 := Scalar.cmpi .ne v35 v40
  let v42 : BitVec 32 := Scalar.remsi v29 c32_i32_7
  let c0_i32_12 : BitVec 32 := 0#32
  let v43 : BitVec 1 := Scalar.cmpi .ne v42 c0_i32_12
  let v44 : BitVec 1 := Scalar.andi v41 v43
  let v30 : BitVec 32 := Scalar.divsi v29 c32_i32_7
  let c1_i32_13 : BitVec 32 := 1#32
  let v45 : BitVec 32 := Scalar.subi v30 c1_i32_13
  let v46 : BitVec 32 := Scalar.select v44 v45 v30
  let v60 : Index := Scalar.indexCast v46
  let c0 : Index := 0#32
  let c0_20 : Index := 0#32
  ![v60.toNat, 0, 0]
def k0_off2 (i : grid0.Coords) (c0_i32_6 : BitVec 32) : Fin 3 → Nat :=
  let arg0 : BitVec 32 := BitVec.ofNat 32 (i 0).val
  let c8_i32 : BitVec 32 := 8#32
  let v28 : BitVec 32 := Scalar.muli arg0 c8_i32
  let v29 : BitVec 32 := Scalar.addi v28 c0_i32_6
  let c0_i32_8 : BitVec 32 := 0#32
  let v31 : BitVec 1 := Scalar.cmpi .sgt v29 c0_i32_8
  let v32 : BitVec 32 := Scalar.extui v31
  let c0_i32_9 : BitVec 32 := 0#32
  let v33 : BitVec 1 := Scalar.cmpi .slt v29 c0_i32_9
  let v34 : BitVec 32 := Scalar.extui v33
  let v35 : BitVec 32 := Scalar.subi v32 v34
  let c32_i32_7 : BitVec 32 := 32#32
  let c0_i32_10 : BitVec 32 := 0#32
  let v36 : BitVec 1 := Scalar.cmpi .sgt c32_i32_7 c0_i32_10
  let v37 : BitVec 32 := Scalar.extui v36
  let c0_i32_11 : BitVec 32 := 0#32
  let v38 : BitVec 1 := Scalar.cmpi .slt c32_i32_7 c0_i32_11
  let v39 : BitVec 32 := Scalar.extui v38
  let v40 : BitVec 32 := Scalar.subi v37 v39
  let v41 : BitVec 1 := Scalar.cmpi .ne v35 v40
  let v42 : BitVec 32 := Scalar.remsi v29 c32_i32_7
  let c0_i32_12 : BitVec 32 := 0#32
  let v43 : BitVec 1 := Scalar.cmpi .ne v42 c0_i32_12
  let v44 : BitVec 1 := Scalar.andi v41 v43
  let v30 : BitVec 32 := Scalar.divsi v29 c32_i32_7
  let c1_i32_13 : BitVec 32 := 1#32
  let v45 : BitVec 32 := Scalar.subi v30 c1_i32_13
  let v46 : BitVec 32 := Scalar.select v44 v45 v30
  let v79 : Index := Scalar.indexCast v46
  let c128 : Index := 128#32
  let c0_26 : Index := 0#32
  ![v79.toNat, 128, 0]
def k0_off3 (i : grid0.Coords) (c0_i32_6 : BitVec 32) : Fin 3 → Nat :=
  let arg0 : BitVec 32 := BitVec.ofNat 32 (i 0).val
  let c8_i32 : BitVec 32 := 8#32
  let v28 : BitVec 32 := Scalar.muli arg0 c8_i32
  let v29 : BitVec 32 := Scalar.addi v28 c0_i32_6
  let c0_i32_8 : BitVec 32 := 0#32
  let v31 : BitVec 1 := Scalar.cmpi .sgt v29 c0_i32_8
  let v32 : BitVec 32 := Scalar.extui v31
  let c0_i32_9 : BitVec 32 := 0#32
  let v33 : BitVec 1 := Scalar.cmpi .slt v29 c0_i32_9
  let v34 : BitVec 32 := Scalar.extui v33
  let v35 : BitVec 32 := Scalar.subi v32 v34
  let c32_i32_7 : BitVec 32 := 32#32
  let c0_i32_10 : BitVec 32 := 0#32
  let v36 : BitVec 1 := Scalar.cmpi .sgt c32_i32_7 c0_i32_10
  let v37 : BitVec 32 := Scalar.extui v36
  let c0_i32_11 : BitVec 32 := 0#32
  let v38 : BitVec 1 := Scalar.cmpi .slt c32_i32_7 c0_i32_11
  let v39 : BitVec 32 := Scalar.extui v38
  let v40 : BitVec 32 := Scalar.subi v37 v39
  let v41 : BitVec 1 := Scalar.cmpi .ne v35 v40
  let v42 : BitVec 32 := Scalar.remsi v29 c32_i32_7
  let c0_i32_12 : BitVec 32 := 0#32
  let v43 : BitVec 1 := Scalar.cmpi .ne v42 c0_i32_12
  let v44 : BitVec 1 := Scalar.andi v41 v43
  let v30 : BitVec 32 := Scalar.divsi v29 c32_i32_7
  let c1_i32_13 : BitVec 32 := 1#32
  let v45 : BitVec 32 := Scalar.subi v30 c1_i32_13
  let v46 : BitVec 32 := Scalar.select v44 v45 v30
  let v98 : Index := Scalar.indexCast v46
  let c256_32 : Index := 256#32
  let c0_33 : Index := 0#32
  ![v98.toNat, 256, 0]
def k0_off4 (i : grid0.Coords) (c0_i32_6 : BitVec 32) : Fin 3 → Nat :=
  let arg0 : BitVec 32 := BitVec.ofNat 32 (i 0).val
  let c8_i32 : BitVec 32 := 8#32
  let v28 : BitVec 32 := Scalar.muli arg0 c8_i32
  let v29 : BitVec 32 := Scalar.addi v28 c0_i32_6
  let c0_i32_8 : BitVec 32 := 0#32
  let v31 : BitVec 1 := Scalar.cmpi .sgt v29 c0_i32_8
  let v32 : BitVec 32 := Scalar.extui v31
  let c0_i32_9 : BitVec 32 := 0#32
  let v33 : BitVec 1 := Scalar.cmpi .slt v29 c0_i32_9
  let v34 : BitVec 32 := Scalar.extui v33
  let v35 : BitVec 32 := Scalar.subi v32 v34
  let c32_i32_7 : BitVec 32 := 32#32
  let c0_i32_10 : BitVec 32 := 0#32
  let v36 : BitVec 1 := Scalar.cmpi .sgt c32_i32_7 c0_i32_10
  let v37 : BitVec 32 := Scalar.extui v36
  let c0_i32_11 : BitVec 32 := 0#32
  let v38 : BitVec 1 := Scalar.cmpi .slt c32_i32_7 c0_i32_11
  let v39 : BitVec 32 := Scalar.extui v38
  let v40 : BitVec 32 := Scalar.subi v37 v39
  let v41 : BitVec 1 := Scalar.cmpi .ne v35 v40
  let v42 : BitVec 32 := Scalar.remsi v29 c32_i32_7
  let c0_i32_12 : BitVec 32 := 0#32
  let v43 : BitVec 1 := Scalar.cmpi .ne v42 c0_i32_12
  let v44 : BitVec 1 := Scalar.andi v41 v43
  let v30 : BitVec 32 := Scalar.divsi v29 c32_i32_7
  let c1_i32_13 : BitVec 32 := 1#32
  let v45 : BitVec 32 := Scalar.subi v30 c1_i32_13
  let v46 : BitVec 32 := Scalar.select v44 v45 v30
  let v117 : Index := Scalar.indexCast v46
  let c384 : Index := 384#32
  let c0_39 : Index := 0#32
  ![v117.toNat, 384, 0]
def k0_off5 (i : grid0.Coords) (c0_i32_6 : BitVec 32) : Fin 3 → Nat :=
  let arg0 : BitVec 32 := BitVec.ofNat 32 (i 0).val
  let c8_i32 : BitVec 32 := 8#32
  let v28 : BitVec 32 := Scalar.muli arg0 c8_i32
  let v29 : BitVec 32 := Scalar.addi v28 c0_i32_6
  let c0_i32_8 : BitVec 32 := 0#32
  let v31 : BitVec 1 := Scalar.cmpi .sgt v29 c0_i32_8
  let v32 : BitVec 32 := Scalar.extui v31
  let c0_i32_9 : BitVec 32 := 0#32
  let v33 : BitVec 1 := Scalar.cmpi .slt v29 c0_i32_9
  let v34 : BitVec 32 := Scalar.extui v33
  let v35 : BitVec 32 := Scalar.subi v32 v34
  let c32_i32_7 : BitVec 32 := 32#32
  let c0_i32_10 : BitVec 32 := 0#32
  let v36 : BitVec 1 := Scalar.cmpi .sgt c32_i32_7 c0_i32_10
  let v37 : BitVec 32 := Scalar.extui v36
  let c0_i32_11 : BitVec 32 := 0#32
  let v38 : BitVec 1 := Scalar.cmpi .slt c32_i32_7 c0_i32_11
  let v39 : BitVec 32 := Scalar.extui v38
  let v40 : BitVec 32 := Scalar.subi v37 v39
  let v41 : BitVec 1 := Scalar.cmpi .ne v35 v40
  let v42 : BitVec 32 := Scalar.remsi v29 c32_i32_7
  let c0_i32_12 : BitVec 32 := 0#32
  let v43 : BitVec 1 := Scalar.cmpi .ne v42 c0_i32_12
  let v44 : BitVec 1 := Scalar.andi v41 v43
  let v30 : BitVec 32 := Scalar.divsi v29 c32_i32_7
  let c1_i32_13 : BitVec 32 := 1#32
  let v45 : BitVec 32 := Scalar.subi v30 c1_i32_13
  let v46 : BitVec 32 := Scalar.select v44 v45 v30
  let v136 : Index := Scalar.indexCast v46
  let c512_45 : Index := 512#32
  let c0_46 : Index := 0#32
  ![v136.toNat, 512, 0]
def k0_off6 (i : grid0.Coords) (c0_i32_6 : BitVec 32) : Fin 3 → Nat :=
  let arg0 : BitVec 32 := BitVec.ofNat 32 (i 0).val
  let c8_i32 : BitVec 32 := 8#32
  let v28 : BitVec 32 := Scalar.muli arg0 c8_i32
  let v29 : BitVec 32 := Scalar.addi v28 c0_i32_6
  let c0_i32_8 : BitVec 32 := 0#32
  let v31 : BitVec 1 := Scalar.cmpi .sgt v29 c0_i32_8
  let v32 : BitVec 32 := Scalar.extui v31
  let c0_i32_9 : BitVec 32 := 0#32
  let v33 : BitVec 1 := Scalar.cmpi .slt v29 c0_i32_9
  let v34 : BitVec 32 := Scalar.extui v33
  let v35 : BitVec 32 := Scalar.subi v32 v34
  let c32_i32_7 : BitVec 32 := 32#32
  let c0_i32_10 : BitVec 32 := 0#32
  let v36 : BitVec 1 := Scalar.cmpi .sgt c32_i32_7 c0_i32_10
  let v37 : BitVec 32 := Scalar.extui v36
  let c0_i32_11 : BitVec 32 := 0#32
  let v38 : BitVec 1 := Scalar.cmpi .slt c32_i32_7 c0_i32_11
  let v39 : BitVec 32 := Scalar.extui v38
  let v40 : BitVec 32 := Scalar.subi v37 v39
  let v41 : BitVec 1 := Scalar.cmpi .ne v35 v40
  let v42 : BitVec 32 := Scalar.remsi v29 c32_i32_7
  let c0_i32_12 : BitVec 32 := 0#32
  let v43 : BitVec 1 := Scalar.cmpi .ne v42 c0_i32_12
  let v44 : BitVec 1 := Scalar.andi v41 v43
  let v30 : BitVec 32 := Scalar.divsi v29 c32_i32_7
  let c1_i32_13 : BitVec 32 := 1#32
  let v45 : BitVec 32 := Scalar.subi v30 c1_i32_13
  let v46 : BitVec 32 := Scalar.select v44 v45 v30
  let v155 : Index := Scalar.indexCast v46
  let c640 : Index := 640#32
  let c0_52 : Index := 0#32
  ![v155.toNat, 640, 0]
def k0_off7 (i : grid0.Coords) (c0_i32_508 : BitVec 32) : Fin 3 → Nat :=
  let arg0 : BitVec 32 := BitVec.ofNat 32 (i 0).val
  let c8_i32_507 : BitVec 32 := 8#32
  let v1221 : BitVec 32 := Scalar.muli arg0 c8_i32_507
  let v1222 : BitVec 32 := Scalar.addi v1221 c0_i32_508
  let c0_i32_510 : BitVec 32 := 0#32
  let v1224 : BitVec 1 := Scalar.cmpi .sgt v1222 c0_i32_510
  let v1225 : BitVec 32 := Scalar.extui v1224
  let c0_i32_511 : BitVec 32 := 0#32
  let v1226 : BitVec 1 := Scalar.cmpi .slt v1222 c0_i32_511
  let v1227 : BitVec 32 := Scalar.extui v1226
  let v1228 : BitVec 32 := Scalar.subi v1225 v1227
  let c32_i32_509 : BitVec 32 := 32#32
  let c0_i32_512 : BitVec 32 := 0#32
  let v1229 : BitVec 1 := Scalar.cmpi .sgt c32_i32_509 c0_i32_512
  let v1230 : BitVec 32 := Scalar.extui v1229
  let c0_i32_513 : BitVec 32 := 0#32
  let v1231 : BitVec 1 := Scalar.cmpi .slt c32_i32_509 c0_i32_513
  let v1232 : BitVec 32 := Scalar.extui v1231
  let v1233 : BitVec 32 := Scalar.subi v1230 v1232
  let v1234 : BitVec 1 := Scalar.cmpi .ne v1228 v1233
  let v1235 : BitVec 32 := Scalar.remsi v1222 c32_i32_509
  let c0_i32_514 : BitVec 32 := 0#32
  let v1236 : BitVec 1 := Scalar.cmpi .ne v1235 c0_i32_514
  let v1237 : BitVec 1 := Scalar.andi v1234 v1236
  let v1223 : BitVec 32 := Scalar.divsi v1222 c32_i32_509
  let c1_i32_515 : BitVec 32 := 1#32
  let v1238 : BitVec 32 := Scalar.subi v1223 c1_i32_515
  let v1239 : BitVec 32 := Scalar.select v1237 v1238 v1223
  let v1253 : Index := Scalar.indexCast v1239
  let c0_523 : Index := 0#32
  let c0_524 : Index := 0#32
  ![v1253.toNat, 0, 0]
def k0_off8 (i : grid0.Coords) (c0_i32_508 : BitVec 32) : Fin 3 → Nat :=
  let arg0 : BitVec 32 := BitVec.ofNat 32 (i 0).val
  let c8_i32_507 : BitVec 32 := 8#32
  let v1221 : BitVec 32 := Scalar.muli arg0 c8_i32_507
  let v1222 : BitVec 32 := Scalar.addi v1221 c0_i32_508
  let c0_i32_510 : BitVec 32 := 0#32
  let v1224 : BitVec 1 := Scalar.cmpi .sgt v1222 c0_i32_510
  let v1225 : BitVec 32 := Scalar.extui v1224
  let c0_i32_511 : BitVec 32 := 0#32
  let v1226 : BitVec 1 := Scalar.cmpi .slt v1222 c0_i32_511
  let v1227 : BitVec 32 := Scalar.extui v1226
  let v1228 : BitVec 32 := Scalar.subi v1225 v1227
  let c32_i32_509 : BitVec 32 := 32#32
  let c0_i32_512 : BitVec 32 := 0#32
  let v1229 : BitVec 1 := Scalar.cmpi .sgt c32_i32_509 c0_i32_512
  let v1230 : BitVec 32 := Scalar.extui v1229
  let c0_i32_513 : BitVec 32 := 0#32
  let v1231 : BitVec 1 := Scalar.cmpi .slt c32_i32_509 c0_i32_513
  let v1232 : BitVec 32 := Scalar.extui v1231
  let v1233 : BitVec 32 := Scalar.subi v1230 v1232
  let v1234 : BitVec 1 := Scalar.cmpi .ne v1228 v1233
  let v1235 : BitVec 32 := Scalar.remsi v1222 c32_i32_509
  let c0_i32_514 : BitVec 32 := 0#32
  let v1236 : BitVec 1 := Scalar.cmpi .ne v1235 c0_i32_514
  let v1237 : BitVec 1 := Scalar.andi v1234 v1236
  let v1223 : BitVec 32 := Scalar.divsi v1222 c32_i32_509
  let c1_i32_515 : BitVec 32 := 1#32
  let v1238 : BitVec 32 := Scalar.subi v1223 c1_i32_515
  let v1239 : BitVec 32 := Scalar.select v1237 v1238 v1223
  let v1271 : Index := Scalar.indexCast v1239
  let c128_531 : Index := 128#32
  let c0_532 : Index := 0#32
  ![v1271.toNat, 128, 0]
def k0_off9 (i : grid0.Coords) (c0_i32_508 : BitVec 32) : Fin 3 → Nat :=
  let arg0 : BitVec 32 := BitVec.ofNat 32 (i 0).val
  let c8_i32_507 : BitVec 32 := 8#32
  let v1221 : BitVec 32 := Scalar.muli arg0 c8_i32_507
  let v1222 : BitVec 32 := Scalar.addi v1221 c0_i32_508
  let c0_i32_510 : BitVec 32 := 0#32
  let v1224 : BitVec 1 := Scalar.cmpi .sgt v1222 c0_i32_510
  let v1225 : BitVec 32 := Scalar.extui v1224
  let c0_i32_511 : BitVec 32 := 0#32
  let v1226 : BitVec 1 := Scalar.cmpi .slt v1222 c0_i32_511
  let v1227 : BitVec 32 := Scalar.extui v1226
  let v1228 : BitVec 32 := Scalar.subi v1225 v1227
  let c32_i32_509 : BitVec 32 := 32#32
  let c0_i32_512 : BitVec 32 := 0#32
  let v1229 : BitVec 1 := Scalar.cmpi .sgt c32_i32_509 c0_i32_512
  let v1230 : BitVec 32 := Scalar.extui v1229
  let c0_i32_513 : BitVec 32 := 0#32
  let v1231 : BitVec 1 := Scalar.cmpi .slt c32_i32_509 c0_i32_513
  let v1232 : BitVec 32 := Scalar.extui v1231
  let v1233 : BitVec 32 := Scalar.subi v1230 v1232
  let v1234 : BitVec 1 := Scalar.cmpi .ne v1228 v1233
  let v1235 : BitVec 32 := Scalar.remsi v1222 c32_i32_509
  let c0_i32_514 : BitVec 32 := 0#32
  let v1236 : BitVec 1 := Scalar.cmpi .ne v1235 c0_i32_514
  let v1237 : BitVec 1 := Scalar.andi v1234 v1236
  let v1223 : BitVec 32 := Scalar.divsi v1222 c32_i32_509
  let c1_i32_515 : BitVec 32 := 1#32
  let v1238 : BitVec 32 := Scalar.subi v1223 c1_i32_515
  let v1239 : BitVec 32 := Scalar.select v1237 v1238 v1223
  let v1289 : Index := Scalar.indexCast v1239
  let c256_539 : Index := 256#32
  let c0_540 : Index := 0#32
  ![v1289.toNat, 256, 0]
def k0_off10 (i : grid0.Coords) (c0_i32_508 : BitVec 32) : Fin 3 → Nat :=
  let arg0 : BitVec 32 := BitVec.ofNat 32 (i 0).val
  let c8_i32_507 : BitVec 32 := 8#32
  let v1221 : BitVec 32 := Scalar.muli arg0 c8_i32_507
  let v1222 : BitVec 32 := Scalar.addi v1221 c0_i32_508
  let c0_i32_510 : BitVec 32 := 0#32
  let v1224 : BitVec 1 := Scalar.cmpi .sgt v1222 c0_i32_510
  let v1225 : BitVec 32 := Scalar.extui v1224
  let c0_i32_511 : BitVec 32 := 0#32
  let v1226 : BitVec 1 := Scalar.cmpi .slt v1222 c0_i32_511
  let v1227 : BitVec 32 := Scalar.extui v1226
  let v1228 : BitVec 32 := Scalar.subi v1225 v1227
  let c32_i32_509 : BitVec 32 := 32#32
  let c0_i32_512 : BitVec 32 := 0#32
  let v1229 : BitVec 1 := Scalar.cmpi .sgt c32_i32_509 c0_i32_512
  let v1230 : BitVec 32 := Scalar.extui v1229
  let c0_i32_513 : BitVec 32 := 0#32
  let v1231 : BitVec 1 := Scalar.cmpi .slt c32_i32_509 c0_i32_513
  let v1232 : BitVec 32 := Scalar.extui v1231
  let v1233 : BitVec 32 := Scalar.subi v1230 v1232
  let v1234 : BitVec 1 := Scalar.cmpi .ne v1228 v1233
  let v1235 : BitVec 32 := Scalar.remsi v1222 c32_i32_509
  let c0_i32_514 : BitVec 32 := 0#32
  let v1236 : BitVec 1 := Scalar.cmpi .ne v1235 c0_i32_514
  let v1237 : BitVec 1 := Scalar.andi v1234 v1236
  let v1223 : BitVec 32 := Scalar.divsi v1222 c32_i32_509
  let c1_i32_515 : BitVec 32 := 1#32
  let v1238 : BitVec 32 := Scalar.subi v1223 c1_i32_515
  let v1239 : BitVec 32 := Scalar.select v1237 v1238 v1223
  let v1307 : Index := Scalar.indexCast v1239
  let c384_547 : Index := 384#32
  let c0_548 : Index := 0#32
  ![v1307.toNat, 384, 0]
def k0_off11 (i : grid0.Coords) (c0_i32_508 : BitVec 32) : Fin 3 → Nat :=
  let arg0 : BitVec 32 := BitVec.ofNat 32 (i 0).val
  let c8_i32_507 : BitVec 32 := 8#32
  let v1221 : BitVec 32 := Scalar.muli arg0 c8_i32_507
  let v1222 : BitVec 32 := Scalar.addi v1221 c0_i32_508
  let c0_i32_510 : BitVec 32 := 0#32
  let v1224 : BitVec 1 := Scalar.cmpi .sgt v1222 c0_i32_510
  let v1225 : BitVec 32 := Scalar.extui v1224
  let c0_i32_511 : BitVec 32 := 0#32
  let v1226 : BitVec 1 := Scalar.cmpi .slt v1222 c0_i32_511
  let v1227 : BitVec 32 := Scalar.extui v1226
  let v1228 : BitVec 32 := Scalar.subi v1225 v1227
  let c32_i32_509 : BitVec 32 := 32#32
  let c0_i32_512 : BitVec 32 := 0#32
  let v1229 : BitVec 1 := Scalar.cmpi .sgt c32_i32_509 c0_i32_512
  let v1230 : BitVec 32 := Scalar.extui v1229
  let c0_i32_513 : BitVec 32 := 0#32
  let v1231 : BitVec 1 := Scalar.cmpi .slt c32_i32_509 c0_i32_513
  let v1232 : BitVec 32 := Scalar.extui v1231
  let v1233 : BitVec 32 := Scalar.subi v1230 v1232
  let v1234 : BitVec 1 := Scalar.cmpi .ne v1228 v1233
  let v1235 : BitVec 32 := Scalar.remsi v1222 c32_i32_509
  let c0_i32_514 : BitVec 32 := 0#32
  let v1236 : BitVec 1 := Scalar.cmpi .ne v1235 c0_i32_514
  let v1237 : BitVec 1 := Scalar.andi v1234 v1236
  let v1223 : BitVec 32 := Scalar.divsi v1222 c32_i32_509
  let c1_i32_515 : BitVec 32 := 1#32
  let v1238 : BitVec 32 := Scalar.subi v1223 c1_i32_515
  let v1239 : BitVec 32 := Scalar.select v1237 v1238 v1223
  let v1325 : Index := Scalar.indexCast v1239
  let c512_555 : Index := 512#32
  let c0_556 : Index := 0#32
  ![v1325.toNat, 512, 0]
def k0_off12 (i : grid0.Coords) (c0_i32_508 : BitVec 32) : Fin 3 → Nat :=
  let arg0 : BitVec 32 := BitVec.ofNat 32 (i 0).val
  let c8_i32_507 : BitVec 32 := 8#32
  let v1221 : BitVec 32 := Scalar.muli arg0 c8_i32_507
  let v1222 : BitVec 32 := Scalar.addi v1221 c0_i32_508
  let c0_i32_510 : BitVec 32 := 0#32
  let v1224 : BitVec 1 := Scalar.cmpi .sgt v1222 c0_i32_510
  let v1225 : BitVec 32 := Scalar.extui v1224
  let c0_i32_511 : BitVec 32 := 0#32
  let v1226 : BitVec 1 := Scalar.cmpi .slt v1222 c0_i32_511
  let v1227 : BitVec 32 := Scalar.extui v1226
  let v1228 : BitVec 32 := Scalar.subi v1225 v1227
  let c32_i32_509 : BitVec 32 := 32#32
  let c0_i32_512 : BitVec 32 := 0#32
  let v1229 : BitVec 1 := Scalar.cmpi .sgt c32_i32_509 c0_i32_512
  let v1230 : BitVec 32 := Scalar.extui v1229
  let c0_i32_513 : BitVec 32 := 0#32
  let v1231 : BitVec 1 := Scalar.cmpi .slt c32_i32_509 c0_i32_513
  let v1232 : BitVec 32 := Scalar.extui v1231
  let v1233 : BitVec 32 := Scalar.subi v1230 v1232
  let v1234 : BitVec 1 := Scalar.cmpi .ne v1228 v1233
  let v1235 : BitVec 32 := Scalar.remsi v1222 c32_i32_509
  let c0_i32_514 : BitVec 32 := 0#32
  let v1236 : BitVec 1 := Scalar.cmpi .ne v1235 c0_i32_514
  let v1237 : BitVec 1 := Scalar.andi v1234 v1236
  let v1223 : BitVec 32 := Scalar.divsi v1222 c32_i32_509
  let c1_i32_515 : BitVec 32 := 1#32
  let v1238 : BitVec 32 := Scalar.subi v1223 c1_i32_515
  let v1239 : BitVec 32 := Scalar.select v1237 v1238 v1223
  let v1343 : Index := Scalar.indexCast v1239
  let c640_563 : Index := 640#32
  let c0_564 : Index := 0#32
  ![v1343.toNat, 640, 0]
def k0_off13 (i : grid0.Coords) (c0_i32_508 : BitVec 32) : Fin 3 → Nat :=
  let arg0 : BitVec 32 := BitVec.ofNat 32 (i 0).val
  let c8_i32_507 : BitVec 32 := 8#32
  let v1221 : BitVec 32 := Scalar.muli arg0 c8_i32_507
  let v1222 : BitVec 32 := Scalar.addi v1221 c0_i32_508
  let c0_i32_510 : BitVec 32 := 0#32
  let v1224 : BitVec 1 := Scalar.cmpi .sgt v1222 c0_i32_510
  let v1225 : BitVec 32 := Scalar.extui v1224
  let c0_i32_511 : BitVec 32 := 0#32
  let v1226 : BitVec 1 := Scalar.cmpi .slt v1222 c0_i32_511
  let v1227 : BitVec 32 := Scalar.extui v1226
  let v1228 : BitVec 32 := Scalar.subi v1225 v1227
  let c32_i32_509 : BitVec 32 := 32#32
  let c0_i32_512 : BitVec 32 := 0#32
  let v1229 : BitVec 1 := Scalar.cmpi .sgt c32_i32_509 c0_i32_512
  let v1230 : BitVec 32 := Scalar.extui v1229
  let c0_i32_513 : BitVec 32 := 0#32
  let v1231 : BitVec 1 := Scalar.cmpi .slt c32_i32_509 c0_i32_513
  let v1232 : BitVec 32 := Scalar.extui v1231
  let v1233 : BitVec 32 := Scalar.subi v1230 v1232
  let v1234 : BitVec 1 := Scalar.cmpi .ne v1228 v1233
  let v1235 : BitVec 32 := Scalar.remsi v1222 c32_i32_509
  let c0_i32_514 : BitVec 32 := 0#32
  let v1236 : BitVec 1 := Scalar.cmpi .ne v1235 c0_i32_514
  let v1237 : BitVec 1 := Scalar.andi v1234 v1236
  let v1223 : BitVec 32 := Scalar.divsi v1222 c32_i32_509
  let c1_i32_515 : BitVec 32 := 1#32
  let v1238 : BitVec 32 := Scalar.subi v1223 c1_i32_515
  let v1239 : BitVec 32 := Scalar.select v1237 v1238 v1223
  let v1361 : Index := Scalar.indexCast v1239
  let c768_571 : Index := 768#32
  let c0_572 : Index := 0#32
  ![v1361.toNat, 768, 0]
def k0_off14 (i : grid0.Coords) (c0_i32_508 : BitVec 32) : Fin 3 → Nat :=
  let arg0 : BitVec 32 := BitVec.ofNat 32 (i 0).val
  let c8_i32_507 : BitVec 32 := 8#32
  let v1221 : BitVec 32 := Scalar.muli arg0 c8_i32_507
  let v1222 : BitVec 32 := Scalar.addi v1221 c0_i32_508
  let c0_i32_510 : BitVec 32 := 0#32
  let v1224 : BitVec 1 := Scalar.cmpi .sgt v1222 c0_i32_510
  let v1225 : BitVec 32 := Scalar.extui v1224
  let c0_i32_511 : BitVec 32 := 0#32
  let v1226 : BitVec 1 := Scalar.cmpi .slt v1222 c0_i32_511
  let v1227 : BitVec 32 := Scalar.extui v1226
  let v1228 : BitVec 32 := Scalar.subi v1225 v1227
  let c32_i32_509 : BitVec 32 := 32#32
  let c0_i32_512 : BitVec 32 := 0#32
  let v1229 : BitVec 1 := Scalar.cmpi .sgt c32_i32_509 c0_i32_512
  let v1230 : BitVec 32 := Scalar.extui v1229
  let c0_i32_513 : BitVec 32 := 0#32
  let v1231 : BitVec 1 := Scalar.cmpi .slt c32_i32_509 c0_i32_513
  let v1232 : BitVec 32 := Scalar.extui v1231
  let v1233 : BitVec 32 := Scalar.subi v1230 v1232
  let v1234 : BitVec 1 := Scalar.cmpi .ne v1228 v1233
  let v1235 : BitVec 32 := Scalar.remsi v1222 c32_i32_509
  let c0_i32_514 : BitVec 32 := 0#32
  let v1236 : BitVec 1 := Scalar.cmpi .ne v1235 c0_i32_514
  let v1237 : BitVec 1 := Scalar.andi v1234 v1236
  let v1223 : BitVec 32 := Scalar.divsi v1222 c32_i32_509
  let c1_i32_515 : BitVec 32 := 1#32
  let v1238 : BitVec 32 := Scalar.subi v1223 c1_i32_515
  let v1239 : BitVec 32 := Scalar.select v1237 v1238 v1223
  let v1379 : Index := Scalar.indexCast v1239
  let c896_578 : Index := 896#32
  let c0_579 : Index := 0#32
  ![v1379.toNat, 896, 0]
def k0_cond2 (i : grid0.Coords) : BitVec 1 :=
  let arg0 : BitVec 32 := BitVec.ofNat 32 (i 0).val
  let c7_i32_1171 : BitVec 32 := 7#32
  let v2653 : BitVec 1 := Scalar.cmpi .eq arg0 c7_i32_1171
  let v2654 : BitVec 32 := Scalar.extui v2653
  let c0_i32_1172 : BitVec 32 := 0#32
  let v2655 : BitVec 1 := Scalar.cmpi .ne v2654 c0_i32_1172
  v2655

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1536x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x256 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x256 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S3x512x8192 : Shape := ⟨3, ![3, 512, 8192]⟩
abbrev S3x512x256 : Shape := ⟨3, ![3, 512, 256]⟩
abbrev S2048x8192 : Shape := ⟨2, ![2048, 8192]⟩
abbrev S2048x256 : Shape := ⟨2, ![2048, 256]⟩
abbrev S1536x8192 : Shape := ⟨2, ![1536, 8192]⟩
abbrev S1536x256 : Shape := ⟨2, ![1536, 256]⟩
abbrev S1536x2048 : Shape := ⟨2, ![1536, 2048]⟩
abbrev S1536x256x32 : Shape := ⟨3, ![1536, 256, 32]⟩
abbrev S1536x256x1 : Shape := ⟨3, ![1536, 256, 1]⟩
abbrev S2048x256x32 : Shape := ⟨3, ![2048, 256, 32]⟩
abbrev S2048x256x1 : Shape := ⟨3, ![2048, 256, 1]⟩
abbrev S3x512x2048 : Shape := ⟨3, ![3, 512, 2048]⟩

abbrev nBuf : Space → Nat
  | .hbm => 8
  | .vmem => 5
  | .smem => 0
  | _ => 0

abbrev bufTy : (tb : Table) → Fin (tcTables nBuf tb) → BufTy
  | .hbm, ⟨0, _⟩ => ⟨S3x512x8192, .fp8e4m3⟩
  | .hbm, ⟨1, _⟩ => ⟨S3x512x256, .i8⟩
  | .hbm, ⟨2, _⟩ => ⟨S2048x8192, .fp8e4m3⟩
  | .hbm, ⟨3, _⟩ => ⟨S2048x256, .i8⟩
  | .hbm, ⟨4, _⟩ => ⟨S1536x8192, .fp8e4m3⟩
  | .hbm, ⟨5, _⟩ => ⟨S1536x256, .i8⟩
  | .hbm, ⟨6, _⟩ => ⟨S1536x2048, .bf16⟩
  | .hbm, ⟨7, _⟩ => ⟨S3x512x2048, .bf16⟩
  | .local _ .vmem, ⟨0, _⟩ => ⟨S1536x8192, .fp8e4m3⟩
  | .local _ .vmem, ⟨1, _⟩ => ⟨S1536x256, .i8⟩
  | .local _ .vmem, ⟨2, _⟩ => ⟨S2048x8192, .fp8e4m3⟩
  | .local _ .vmem, ⟨3, _⟩ => ⟨S2048x256, .i8⟩
  | .local _ .vmem, ⟨4, _⟩ => ⟨S1536x2048, .bf16⟩
  | _, _ => ⟨S3x512x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1536x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x256 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x256 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Kernel.Offs.lean ====
/- The offsets of the body's loads of the packed scale words, in closed form: every chain names
   the half of the contraction the point lies in, and the row its unit starts at. -/
module

public import proofs.«01_k».proof.Proof.Gen.Kernel

@[expose] public section

noncomputable section

namespace Cert.Kernel.Gen

open Idealize.ShloMosaic

/-- The word of a group of 128 contraction elements inside a point's block of 1024: one of the first eight words. -/
class GroupWord (c : BitVec 32) : Prop where
  /-- It is below eight. -/
  lt : c.toNat < 8

instance groupWord_0 : GroupWord (BitVec.ofNat 32 0) := ⟨by decide⟩
instance groupWord_1 : GroupWord (BitVec.ofNat 32 1) := ⟨by decide⟩
instance groupWord_2 : GroupWord (BitVec.ofNat 32 2) := ⟨by decide⟩
instance groupWord_3 : GroupWord (BitVec.ofNat 32 3) := ⟨by decide⟩
instance groupWord_4 : GroupWord (BitVec.ofNat 32 4) := ⟨by decide⟩
instance groupWord_5 : GroupWord (BitVec.ofNat 32 5) := ⟨by decide⟩
instance groupWord_6 : GroupWord (BitVec.ofNat 32 6) := ⟨by decide⟩
instance groupWord_7 : GroupWord (BitVec.ofNat 32 7) := ⟨by decide⟩

/-- The chain `k0_off1` at group `r`: half `i / 4`, row 0. -/
theorem k0_off1_eq : ∀ i : grid0.Coords, ∀ r : Fin 8, k0_off1 i (BitVec.ofNat 32 r.val) = ![(i 0).val / 4, 0, 0] := by
  decide +kernel
instance closedOff_k0_off1 (i : grid0.Coords) (c : BitVec 32) [h : GroupWord c] : ClosedOff (k0_off1 i c) :=
  ⟨![(i 0).val / 4, 0, 0], by simpa only [BitVec.ofNat_toNat, BitVec.setWidth_eq] using k0_off1_eq i ⟨c.toNat, h.lt⟩⟩

/-- The chain `k0_off2` at group `r`: half `i / 4`, row 128. -/
theorem k0_off2_eq : ∀ i : grid0.Coords, ∀ r : Fin 8, k0_off2 i (BitVec.ofNat 32 r.val) = ![(i 0).val / 4, 128, 0] := by
  decide +kernel
instance closedOff_k0_off2 (i : grid0.Coords) (c : BitVec 32) [h : GroupWord c] : ClosedOff (k0_off2 i c) :=
  ⟨![(i 0).val / 4, 128, 0], by simpa only [BitVec.ofNat_toNat, BitVec.setWidth_eq] using k0_off2_eq i ⟨c.toNat, h.lt⟩⟩

/-- The chain `k0_off3` at group `r`: half `i / 4`, row 256. -/
theorem k0_off3_eq : ∀ i : grid0.Coords, ∀ r : Fin 8, k0_off3 i (BitVec.ofNat 32 r.val) = ![(i 0).val / 4, 256, 0] := by
  decide +kernel
instance closedOff_k0_off3 (i : grid0.Coords) (c : BitVec 32) [h : GroupWord c] : ClosedOff (k0_off3 i c) :=
  ⟨![(i 0).val / 4, 256, 0], by simpa only [BitVec.ofNat_toNat, BitVec.setWidth_eq] using k0_off3_eq i ⟨c.toNat, h.lt⟩⟩

/-- The chain `k0_off4` at group `r`: half `i / 4`, row 384. -/
theorem k0_off4_eq : ∀ i : grid0.Coords, ∀ r : Fin 8, k0_off4 i (BitVec.ofNat 32 r.val) = ![(i 0).val / 4, 384, 0] := by
  decide +kernel
instance closedOff_k0_off4 (i : grid0.Coords) (c : BitVec 32) [h : GroupWord c] : ClosedOff (k0_off4 i c) :=
  ⟨![(i 0).val / 4, 384, 0], by simpa only [BitVec.ofNat_toNat, BitVec.setWidth_eq] using k0_off4_eq i ⟨c.toNat, h.lt⟩⟩

/-- The chain `k0_off5` at group `r`: half `i / 4`, row 512. -/
theorem k0_off5_eq : ∀ i : grid0.Coords, ∀ r : Fin 8, k0_off5 i (BitVec.ofNat 32 r.val) = ![(i 0).val / 4, 512, 0] := by
  decide +kernel
instance closedOff_k0_off5 (i : grid0.Coords) (c : BitVec 32) [h : GroupWord c] : ClosedOff (k0_off5 i c) :=
  ⟨![(i 0).val / 4, 512, 0], by simpa only [BitVec.ofNat_toNat, BitVec.setWidth_eq] using k0_off5_eq i ⟨c.toNat, h.lt⟩⟩

/-- The chain `k0_off6` at group `r`: half `i / 4`, row 640. -/
theorem k0_off6_eq : ∀ i : grid0.Coords, ∀ r : Fin 8, k0_off6 i (BitVec.ofNat 32 r.val) = ![(i 0).val / 4, 640, 0] := by
  decide +kernel
instance closedOff_k0_off6 (i : grid0.Coords) (c : BitVec 32) [h : GroupWord c] : ClosedOff (k0_off6 i c) :=
  ⟨![(i 0).val / 4, 640, 0], by simpa only [BitVec.ofNat_toNat, BitVec.setWidth_eq] using k0_off6_eq i ⟨c.toNat, h.lt⟩⟩

/-- The chain `k0_off7` at group `r`: half `i / 4`, row 0. -/
theorem k0_off7_eq : ∀ i : grid0.Coords, ∀ r : Fin 8, k0_off7 i (BitVec.ofNat 32 r.val) = ![(i 0).val / 4, 0, 0] := by
  decide +kernel
instance closedOff_k0_off7 (i : grid0.Coords) (c : BitVec 32) [h : GroupWord c] : ClosedOff (k0_off7 i c) :=
  ⟨![(i 0).val / 4, 0, 0], by simpa only [BitVec.ofNat_toNat, BitVec.setWidth_eq] using k0_off7_eq i ⟨c.toNat, h.lt⟩⟩

/-- The chain `k0_off8` at group `r`: half `i / 4`, row 128. -/
theorem k0_off8_eq : ∀ i : grid0.Coords, ∀ r : Fin 8, k0_off8 i (BitVec.ofNat 32 r.val) = ![(i 0).val / 4, 128, 0] := by
  decide +kernel
instance closedOff_k0_off8 (i : grid0.Coords) (c : BitVec 32) [h : GroupWord c] : ClosedOff (k0_off8 i c) :=
  ⟨![(i 0).val / 4, 128, 0], by simpa only [BitVec.ofNat_toNat, BitVec.setWidth_eq] using k0_off8_eq i ⟨c.toNat, h.lt⟩⟩

/-- The chain `k0_off9` at group `r`: half `i / 4`, row 256. -/
theorem k0_off9_eq : ∀ i : grid0.Coords, ∀ r : Fin 8, k0_off9 i (BitVec.ofNat 32 r.val) = ![(i 0).val / 4, 256, 0] := by
  decide +kernel
instance closedOff_k0_off9 (i : grid0.Coords) (c : BitVec 32) [h : GroupWord c] : ClosedOff (k0_off9 i c) :=
  ⟨![(i 0).val / 4, 256, 0], by simpa only [BitVec.ofNat_toNat, BitVec.setWidth_eq] using k0_off9_eq i ⟨c.toNat, h.lt⟩⟩

/-- The chain `k0_off10` at group `r`: half `i / 4`, row 384. -/
theorem k0_off10_eq : ∀ i : grid0.Coords, ∀ r : Fin 8, k0_off10 i (BitVec.ofNat 32 r.val) = ![(i 0).val / 4, 384, 0] := by
  decide +kernel
instance closedOff_k0_off10 (i : grid0.Coords) (c : BitVec 32) [h : GroupWord c] : ClosedOff (k0_off10 i c) :=
  ⟨![(i 0).val / 4, 384, 0], by simpa only [BitVec.ofNat_toNat, BitVec.setWidth_eq] using k0_off10_eq i ⟨c.toNat, h.lt⟩⟩

/-- The chain `k0_off11` at group `r`: half `i / 4`, row 512. -/
theorem k0_off11_eq : ∀ i : grid0.Coords, ∀ r : Fin 8, k0_off11 i (BitVec.ofNat 32 r.val) = ![(i 0).val / 4, 512, 0] := by
  decide +kernel
instance closedOff_k0_off11 (i : grid0.Coords) (c : BitVec 32) [h : GroupWord c] : ClosedOff (k0_off11 i c) :=
  ⟨![(i 0).val / 4, 512, 0], by simpa only [BitVec.ofNat_toNat, BitVec.setWidth_eq] using k0_off11_eq i ⟨c.toNat, h.lt⟩⟩

/-- The chain `k0_off12` at group `r`: half `i / 4`, row 640. -/
theorem k0_off12_eq : ∀ i : grid0.Coords, ∀ r : Fin 8, k0_off12 i (BitVec.ofNat 32 r.val) = ![(i 0).val / 4, 640, 0] := by
  decide +kernel
instance closedOff_k0_off12 (i : grid0.Coords) (c : BitVec 32) [h : GroupWord c] : ClosedOff (k0_off12 i c) :=
  ⟨![(i 0).val / 4, 640, 0], by simpa only [BitVec.ofNat_toNat, BitVec.setWidth_eq] using k0_off12_eq i ⟨c.toNat, h.lt⟩⟩

/-- The chain `k0_off13` at group `r`: half `i / 4`, row 768. -/
theorem k0_off13_eq : ∀ i : grid0.Coords, ∀ r : Fin 8, k0_off13 i (BitVec.ofNat 32 r.val) = ![(i 0).val / 4, 768, 0] := by
  decide +kernel
instance closedOff_k0_off13 (i : grid0.Coords) (c : BitVec 32) [h : GroupWord c] : ClosedOff (k0_off13 i c) :=
  ⟨![(i 0).val / 4, 768, 0], by simpa only [BitVec.ofNat_toNat, BitVec.setWidth_eq] using k0_off13_eq i ⟨c.toNat, h.lt⟩⟩

/-- The chain `k0_off14` at group `r`: half `i / 4`, row 896. -/
theorem k0_off14_eq : ∀ i : grid0.Coords, ∀ r : Fin 8, k0_off14 i (BitVec.ofNat 32 r.val) = ![(i 0).val / 4, 896, 0] := by
  decide +kernel
instance closedOff_k0_off14 (i : grid0.Coords) (c : BitVec 32) [h : GroupWord c] : ClosedOff (k0_off14 i c) :=
  ⟨![(i 0).val / 4, 896, 0], by simpa only [BitVec.ofNat_toNat, BitVec.setWidth_eq] using k0_off14_eq i ⟨c.toNat, h.lt⟩⟩

end Cert.Kernel.Gen

end
-- ==== Proof.Kernel.Runs.lean ====
/- Begun from the generator's module of the same name and kept by hand: what the runs of `proofs.«01_k».proof.Kernel`'s
   frame certificate share — the frame kit (`Gen.hmain`, `Gen.V`, `Gen.iblk`, `Gen.frame_of`) and everything the runs
   are stated over (the body's branch conditions in closed form over the points; where its windows are idle; the staging and
   scratch memrefs; side conditions assumed, `Gen.Hyps`; a ring's names and canonical forms) —, imported by the
   first case's run (Frame/Run<κ>.lean: each imports the one before it) and, through the last, by the Frame module
   (Frame.lean), which holds the rest of the certificate. -/
module

public import proofs.«01_k».proof.Proof.Kernel.Offs
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v3}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      (Pipeline.RDat.FramePostR.arr_in h c 1 rfl).trans ((hA c 1).trans (V_main_arg2 m c)),
      (Pipeline.RDat.FramePostR.arr_in h c 3 rfl).trans ((hA c 3).trans (V_main_arg3 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [cond0_1, k0_cond2, e0]
    word_cmp
   : ∀ t : Fin grid0.N, cond0_1 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1536x1024 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1536x256 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x256 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1536x2048 .bf16 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S1536x2048 .f32 := Memref.whole cc0_scratch0
abbrev scM0_1 : Memref sig .tc .vmem S1536x1024 .bf16 := Memref.whole cc0_scratch1
abbrev scM0_2 : Memref sig .tc .vmem S2048x1024 .bf16 := Memref.whole cc0_scratch2
abbrev scM0_3 : Memref sig .tc .vmem S2x768x128 .i32 := Memref.whole cc0_scratch3
abbrev scM0_4 : Memref sig .tc .vmem S2x1024x128 .i32 := Memref.whole cc0_scratch4
/-- The scratch `arg6` the kernel carries between points, as a view: what it holds is stated through it. -/
abbrev VS0_0 : View sig .tc .vmem S1536x2048 .f32 := scM0_0.view
/-- The scratch `arg9` the kernel carries between points, as a view: what it holds is stated through it. -/
abbrev VS0_3 : View sig .tc .vmem S2x768x128 .i32 := scM0_3.view
/-- The scratch `arg10` the kernel carries between points, as a view: what it holds is stated through it. -/
abbrev VS0_4 : View sig .tc .vmem S2x1024x128 .i32 := scM0_4.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Gen

end
-- ==== Proof.Kernel.RunA.lean ====
/- Begun from the generator's module of the same name and kept by hand: the whole-body RUN of `proofs.«01_k».proof.Kernel`'s kernel in
   case A of its frame certificate (`Gen.kernelRun0_A`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. -/
module

public import proofs.«01_k».proof.Proof.Kernel.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4764000 in
/-- What the body's stores leave in each output's staging memref, as pieces (last first) IN CASE A (`scf.if` 0 taken, `scf.if` 1 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4) at anything, handed back at some contents nothing names. -/
noncomputable def kernelRun0_A (c : Dev nD) (i : grid0.Coords) (arg1 : Memref sig .tc .vmem S1536x1024 .fp8e4m3) (harg1 : arg1.IsWhole) (arg2 : Memref sig .tc .vmem S2048x1024 .fp8e4m3) (harg2 : arg2.IsWhole) (arg3 : Memref sig .tc .vmem S1536x256 .i8) (harg3 : arg3.IsWhole) (arg4 : Memref sig .tc .vmem S2048x256 .i8) (harg4 : arg4.IsWhole) (arg5 : Memref sig .tc .vmem S1536x2048 .bf16) (harg5 : arg5.IsWhole) (arg6 : Memref sig .tc .vmem S1536x2048 .f32) (harg6 : arg6.IsWhole) (arg7 : Memref sig .tc .vmem S1536x1024 .bf16) (harg7 : arg7.IsWhole) (arg8 : Memref sig .tc .vmem S2048x1024 .bf16) (harg8 : arg8.IsWhole) (arg9 : Memref sig .tc .vmem S2x768x128 .i32) (harg9 : arg9.IsWhole) (arg10 : Memref sig .tc .vmem S2x1024x128 .i32) (harg10 : arg10.IsWhole) (hc0 : cond0_0 i) (hc1 : ¬cond0_1 i)
    (x0 : Vec F S1536x1024 .fp8e4m3) (x1 : Vec F S2048x1024 .fp8e4m3) (x2 : Vec F S1536x256 .i8) (x3 : Vec F S2048x256 .i8) :
    Σ' (LS0 : List (View.Piece (Elt F) S1536x2048 .f32)), Σ' (LS3 : List (View.Piece (Elt F) S2x768x128 .i32)), Σ' (LS4 : List (View.Piece (Elt F) S2x1024x128 .i32)), Σ' (LT1 : List (View.Piece (Elt F) S1536x1024 .bf16)), { LT2 : List (View.Piece (Elt F) S2048x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LT1) ∗ (∃ f, arg8.view.loc (c : Thread nD τ) ↦[arg8.view.set]{fullShare} arg8.view.writes (Elt F) f LT2) ∗ (∃ f, arg9.view.loc (c : Thread nD τ) ↦[arg9.view.set]{fullShare} arg9.view.writes (Elt F) f LS3) ∗ (∃ f, arg10.view.loc (c : Thread nD τ) ↦[arg10.view.set]{fullShare} arg10.view.writes (Elt F) f LS4)) -∗ K ⟨⟩))
          ⊢ wp frame (wpE (defs₀ (F := F)) Variants.none c none) E (cc0_mxfp8_dgrad i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0_mxfp8_dgrad_eq_skeleton]; unfold cc0_mxfp8_dgrad_skel
    simp only [k0_part68_eq_skeleton, k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [HS0]; · iexists _; iexact HS0
    isplitl [HS1]; · iexists _; iexact HS1
    isplitl [HS2]; · iexists _; iexact HS2
    isplitl [HS3]; · iexists _; iexact HS3
    iexists _; iexact HS4

end Cert.Kernel.Gen

end
-- ==== Proof.Kernel.RunB.lean ====
/- Begun from the generator's module of the same name and kept by hand: the whole-body RUN of `proofs.«01_k».proof.Kernel`'s kernel in
   case B of its frame certificate (`Gen.kernelRun0_B`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. -/
module

public import proofs.«01_k».proof.Proof.Kernel.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4680000 in
/-- What the body's stores leave in each output's staging memref, as pieces (last first) IN CASE B (`scf.if` 0 not taken, `scf.if` 1 not taken: points 1, 2, 3, 4, 5, 6), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4) at anything, handed back at some contents nothing names. -/
noncomputable def kernelRun0_B (c : Dev nD) (i : grid0.Coords) (arg1 : Memref sig .tc .vmem S1536x1024 .fp8e4m3) (harg1 : arg1.IsWhole) (arg2 : Memref sig .tc .vmem S2048x1024 .fp8e4m3) (harg2 : arg2.IsWhole) (arg3 : Memref sig .tc .vmem S1536x256 .i8) (harg3 : arg3.IsWhole) (arg4 : Memref sig .tc .vmem S2048x256 .i8) (harg4 : arg4.IsWhole) (arg5 : Memref sig .tc .vmem S1536x2048 .bf16) (harg5 : arg5.IsWhole) (arg6 : Memref sig .tc .vmem S1536x2048 .f32) (harg6 : arg6.IsWhole) (arg7 : Memref sig .tc .vmem S1536x1024 .bf16) (harg7 : arg7.IsWhole) (arg8 : Memref sig .tc .vmem S2048x1024 .bf16) (harg8 : arg8.IsWhole) (arg9 : Memref sig .tc .vmem S2x768x128 .i32) (harg9 : arg9.IsWhole) (arg10 : Memref sig .tc .vmem S2x1024x128 .i32) (harg10 : arg10.IsWhole) (hc0 : ¬cond0_0 i) (hc1 : ¬cond0_1 i)
    (x0 : Vec F S1536x1024 .fp8e4m3) (x1 : Vec F S2048x1024 .fp8e4m3) (x2 : Vec F S1536x256 .i8) (x3 : Vec F S2048x256 .i8) (xs0 : Vec F S1536x2048 .f32) (xs3 : Vec F S2x768x128 .i32) (xs4 : Vec F S2x1024x128 .i32) :
    Σ' (LS0 : List (View.Piece (Elt F) S1536x2048 .f32)), Σ' (LS3 : List (View.Piece (Elt F) S2x768x128 .i32)), Σ' (LS4 : List (View.Piece (Elt F) S2x1024x128 .i32)), Σ' (LT1 : List (View.Piece (Elt F) S1536x1024 .bf16)), { LT2 : List (View.Piece (Elt F) S2048x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ (∃ d, owns (c : Thread nD τ) arg7 fullShare d) ∗ (∃ d, owns (c : Thread nD τ) arg8 fullShare d) ∗ owns (c : Thread nD τ) arg9 fullShare xs3 ∗ owns (c : Thread nD τ) arg10 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LT1) ∗ (∃ f, arg8.view.loc (c : Thread nD τ) ↦[arg8.view.set]{fullShare} arg8.view.writes (Elt F) f LT2) ∗ owns (c : Thread nD τ) arg9 fullShare xs3 ∗ owns (c : Thread nD τ) arg10 fullShare xs4) -∗ K ⟨⟩))
          ⊢ wp frame (wpE (defs₀ (F := F)) Variants.none c none) E (cc0_mxfp8_dgrad i arg1 harg1 arg2 harg2 arg3 harg3 arg4 harg4 arg5 harg5 arg6 harg6 arg7 harg7 arg8 harg8 arg9 harg9 arg10 harg10) K } := by
  refine ⟨?_, [], [], ?_, ?_, fun E K => ?run⟩
  case run =>
    simp only [cc0_mxfp8_dgrad_eq_skeleton]; unfold cc0_mxfp8_dgrad_skel
    simp only [k0_part68_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%ds1, %fs1, -, HS1⟩, ⟨%ds2, %fs2, -, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg6.eq_unread hfs0; obtain rfl := harg9.eq_unread hfs3; obtain rfl := harg10.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [HS0]; · iexists _; iexact HS0
    isplitl [HS1]; · iexists _; iexact HS1
    isplitl [HS2]; · iexists _; iexact HS2
    isplitl [HS3]
    · iexists _; isplitr; · ipureintro; exact harg9.read_unread _
      iexact HS3
    iexists _; isplitr; · ipureintro; exact harg10.read_unread _
    iexact HS4

end Cert.Kernel.Gen

end
-- ==== Proof.Kernel.RunC.lean ====
/- Begun from the generator's module of the same name and kept by hand: the whole-body RUN of `proofs.«01_k».proof.Kernel`'s kernel in
   case C of its frame certificate (`Gen.kernelRun0_C`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. -/
module

public import proofs.«01_k».proof.Proof.Kernel.RunB

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4692000 in
/-- What the body's stores leave in each output's staging memref, as pieces (last first) IN CASE C (`scf.if` 0 not taken, `scf.if` 1 taken: points 7), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4) at anything, handed back at some contents nothing names. -/
noncomputable def kernelRun0_C (c : Dev nD) (i : grid0.Coords) (arg1 : Memref sig .tc .vmem S1536x1024 .fp8e4m3) (harg1 : arg1.IsWhole) (arg2 : Memref sig .tc .vmem S2048x1024 .fp8e4m3) (harg2 : arg2.IsWhole) (arg3 : Memref sig .tc .vmem S1536x256 .i8) (harg3 : arg3.IsWhole) (arg4 : Memref sig .tc .vmem S2048x256 .i8) (harg4 : arg4.IsWhole) (arg5 : Memref sig .tc .vmem S1536x2048 .bf16) (harg5 : arg5.IsWhole) (arg6 : Memref sig .tc .vmem S1536x2048 .f32) (harg6 : arg6.IsWhole) (arg7 : Memref sig .tc .vmem S1536x1024 .bf16) (harg7 : arg7.IsWhole) (arg8 : Memref sig .tc .vmem S2048x1024 .bf16) (harg8 : arg8.IsWhole) (arg9 : Memref sig .tc .vmem S2x768x128 .i32) (harg9 : arg9.IsWhole) (arg10 : Memref sig .tc .vmem S2x1024x128 .i32) (harg10 : arg10.IsWhole) (hc0 : ¬cond0_0 i) (hc1 : cond0_1 i)
    (x0 : Vec F S1536x1024 .fp8e4m3) (x1 : Vec F S2048x1024 .fp8e4m3) (x2 : Vec F S1536x256 .i8) (x3 : Vec F S2048x256 .i8) (xs0 : Vec F S1536x2048 .f32) (xs3 : Vec F S2x768x128 .i32) (xs4 : Vec F S2x1024x128 .i32) :
    Σ' (LS0 : List (View.Piece (Elt F) S1536x2048 .f32)), Σ' (LS3 : List (View.Piece (Elt F) S2x768x128 .i32)), Σ' (LS4 : List (View.Piece (Elt F) S2x1024x128 .i32)), Σ' (LT1 : List (View.Piece (Elt F) S1536x1024 .bf16)), { LT2 : List (View.Piece (Elt F) S2048x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ (∃ d, owns (c : Thread nD τ) arg7 fullShare d) ∗ (∃ d, owns (c : Thread nD τ) arg8 fullShare d) ∗ owns (c : Thread nD τ) arg9 fullShare xs3 ∗ owns (c : Thread nD τ) arg10 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LT1) ∗ (∃ f, arg8.view.loc (c : Thread nD τ) ↦[arg8.view.set]{fullShare} arg8.view.writes (Elt F) f LT2) ∗ owns (c : Thread nD τ) arg9 fullShare xs3 ∗ owns (c : Thread nD τ) arg10 fullShare xs4) -∗ K ⟨⟩))
          ⊢ wp frame (wpE (defs₀ (F := F)) Variants.none c none) E (cc0_mxfp8_dgrad i arg1 harg1 arg2 harg2 arg3 harg3 arg4 harg4 arg5 harg5 arg6 harg6 arg7 harg7 arg8 harg8 arg9 harg9 arg10 harg10) K } := by
  refine ⟨?_, [], [], ?_, ?_, fun E K => ?run⟩
  case run =>
    simp only [cc0_mxfp8_dgrad_eq_skeleton]; unfold cc0_mxfp8_dgrad_skel
    simp only [k0_part68_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%ds1, %fs1, -, HS1⟩, ⟨%ds2, %fs2, -, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg6.eq_unread hfs0; obtain rfl := harg9.eq_unread hfs3; obtain rfl := harg10.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [HS0]; · iexists _; iexact HS0
    isplitl [HS1]; · iexists _; iexact HS1
    isplitl [HS2]; · iexists _; iexact HS2
    isplitl [HS3]
    · iexists _; isplitr; · ipureintro; exact harg9.read_unread _
      iexact HS3
    iexists _; isplitr; · ipureintro; exact harg10.read_unread _
    iexact HS4

end Cert.Kernel.Gen

end
-- ==== Proof.Kernel.Frame.lean ====
/- Begun from the generator's module of the same name and kept by hand: the FRAME CERTIFICATE of `proofs.«01_k».proof.Kernel`,
   its last module — (the outputs' contents FORGOTTEN, stated nowhere) what a carried scratch, if any, holds point by point
   (`Gen.outsAtK`), the proof data (`Gen.dats`), the body obligation, the run
   (`Gen.run_main`) and `Gen.frame`; the frame kit (`Gen.hmain`, `Gen.V`, `Gen.iblk`, `Gen.frame_of`) and what the
   runs share are in Frame/Runs.lean, each case's whole-body run in Frame/Run<κ>.lean; and, the kernel being of
   CLASS R (whole staging memrefs, literal-rectangle covering stores; SMEM words, the generator, loads of its outputs and
   a scratch accumulator CARRIED between points (stored whole at the grid's first point, its contents after each point stated), `scf.if`s on the coordinates admitted — framerun.py), its OUTPUTS FORGOTTEN (window 4: nothing in the directory reads what the kernel leaves there —
   Lib/Pipeline/Dat.lean `Dat.toRForget`), the whole certificate: the body's triple per case (`Gen.kernelRunK_κ`, by
   `sl_exec`; each output handed back at some contents, nothing of it named), the conditions in closed form (`Gen.hcondK_J`), what the carried scratch holds point by point (`Gen.outsAtK`),
   the proof data (the outputs at `Dat.unnamed`), the obligation over `Gen.forgetsK`, the run (`Gen.run_main`, by
   `θ_run_frame_around_T_track_forget`) and `Gen.frame` — the frame claim at any `F`: Proof.lean is
   `theorem Cert.Proof.claim : Cert.Claim := ⟨Gen.facts, fun m ρ _ => Gen.frame m ρ⟩`.
   CLASS R (3 cases of its conditionals, 5 scratch operands, scratch `arg10`, `arg6`, `arg9` carried between points, scratch `arg7`, `arg8` posted (their store pieces named, `LT·`, in the run of each case that posts them), output 4 FORGOTTEN — nothing reads it, so nothing of its contents is named): the certificate is whole here — not class A: the kernel takes operands the pipeline does not stage (scratch, semaphores, tables, arrays left in HBM). -/
module

public import proofs.«01_k».proof.Proof.Kernel.RunC
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg6`, which the kernel carries between points, cover it: one of them a store of the WHOLE buffer (Lib/Ring.lean `sl_whole_mem`). -/
theorem scover0_A_0 (c : Dev nD) (i : grid0.Coords) (arg1 : Memref sig .tc .vmem S1536x1024 .fp8e4m3) (harg1 : arg1.IsWhole) (arg2 : Memref sig .tc .vmem S2048x1024 .fp8e4m3) (harg2 : arg2.IsWhole) (arg3 : Memref sig .tc .vmem S1536x256 .i8) (harg3 : arg3.IsWhole) (arg4 : Memref sig .tc .vmem S2048x256 .i8) (harg4 : arg4.IsWhole) (arg5 : Memref sig .tc .vmem S1536x2048 .bf16) (harg5 : arg5.IsWhole) (arg6 : Memref sig .tc .vmem S1536x2048 .f32) (harg6 : arg6.IsWhole) (arg7 : Memref sig .tc .vmem S1536x1024 .bf16) (harg7 : arg7.IsWhole) (arg8 : Memref sig .tc .vmem S2048x1024 .bf16) (harg8 : arg8.IsWhole) (arg9 : Memref sig .tc .vmem S2x768x128 .i32) (harg9 : arg9.IsWhole) (arg10 : Memref sig .tc .vmem S2x1024x128 .i32) (harg10 : arg10.IsWhole) (hc0 : cond0_0 i) (hc1 : ¬cond0_1 i)
    (x0 : Vec F S1536x1024 .fp8e4m3) (x1 : Vec F S2048x1024 .fp8e4m3) (x2 : Vec F S1536x256 .i8) (x3 : Vec F S2048x256 .i8) (y : S1536x2048.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3).1, y ∈ pc.1.set :=
  View.cover_of_wholeMem (kernelRun0_A c i arg1 harg1 arg2 harg2 arg3 harg3 arg4 harg4 arg5 harg5 arg6 harg6 arg7 harg7 arg8 harg8 arg9 harg9 arg10 harg10 hc0 hc1 x0 x1 x2 x3).1 (by sl_whole_mem) y

/-- What case A leaves in scratch `arg6`: its pieces read back over junk. -/
def sout0_A_0 (c : Dev nD) (i : grid0.Coords) (arg1 : Memref sig .tc .vmem S1536x1024 .fp8e4m3) (harg1 : arg1.IsWhole) (arg2 : Memref sig .tc .vmem S2048x1024 .fp8e4m3) (harg2 : arg2.IsWhole) (arg3 : Memref sig .tc .vmem S1536x256 .i8) (harg3 : arg3.IsWhole) (arg4 : Memref sig .tc .vmem S2048x256 .i8) (harg4 : arg4.IsWhole) (arg5 : Memref sig .tc .vmem S1536x2048 .bf16) (harg5 : arg5.IsWhole) (arg6 : Memref sig .tc .vmem S1536x2048 .f32) (harg6 : arg6.IsWhole) (arg7 : Memref sig .tc .vmem S1536x1024 .bf16) (harg7 : arg7.IsWhole) (arg8 : Memref sig .tc .vmem S2048x1024 .bf16) (harg8 : arg8.IsWhole) (arg9 : Memref sig .tc .vmem S2x768x128 .i32) (harg9 : arg9.IsWhole) (arg10 : Memref sig .tc .vmem S2x1024x128 .i32) (harg10 : arg10.IsWhole) (hc0 : cond0_0 i) (hc1 : ¬cond0_1 i)
    (x0 : Vec F S1536x1024 .fp8e4m3) (x1 : Vec F S2048x1024 .fp8e4m3) (x2 : Vec F S1536x256 .i8) (x3 : Vec F S2048x256 .i8) : Vec F S1536x2048 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 hc0 hc1 x0 x1 x2 x3).1)

/-- Case A's pieces for scratch `arg9`, which the kernel carries between points, cover it: 2 pieces of `S1x768x128` tiling it (Lib/Ring.lean `Piece.tiledL`). -/
theorem scover0_A_3 (c : Dev nD) (i : grid0.Coords) (arg1 : Memref sig .tc .vmem S1536x1024 .fp8e4m3) (harg1 : arg1.IsWhole) (arg2 : Memref sig .tc .vmem S2048x1024 .fp8e4m3) (harg2 : arg2.IsWhole) (arg3 : Memref sig .tc .vmem S1536x256 .i8) (harg3 : arg3.IsWhole) (arg4 : Memref sig .tc .vmem S2048x256 .i8) (harg4 : arg4.IsWhole) (arg5 : Memref sig .tc .vmem S1536x2048 .bf16) (harg5 : arg5.IsWhole) (arg6 : Memref sig .tc .vmem S1536x2048 .f32) (harg6 : arg6.IsWhole) (arg7 : Memref sig .tc .vmem S1536x1024 .bf16) (harg7 : arg7.IsWhole) (arg8 : Memref sig .tc .vmem S2048x1024 .bf16) (harg8 : arg8.IsWhole) (arg9 : Memref sig .tc .vmem S2x768x128 .i32) (harg9 : arg9.IsWhole) (arg10 : Memref sig .tc .vmem S2x1024x128 .i32) (harg10 : arg10.IsWhole) (hc0 : cond0_0 i) (hc1 : ¬cond0_1 i)
    (x0 : Vec F S1536x1024 .fp8e4m3) (x1 : Vec F S2048x1024 .fp8e4m3) (x2 : Vec F S1536x256 .i8) (x3 : Vec F S2048x256 .i8) (y : S2x768x128.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3).2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3).2.1 S1x768x128.size (by sl_kernel_rfl) y

/-- What case A leaves in scratch `arg9`: its pieces read back over junk. -/
def sout0_A_3 (c : Dev nD) (i : grid0.Coords) (arg1 : Memref sig .tc .vmem S1536x1024 .fp8e4m3) (harg1 : arg1.IsWhole) (arg2 : Memref sig .tc .vmem S2048x1024 .fp8e4m3) (harg2 : arg2.IsWhole) (arg3 : Memref sig .tc .vmem S1536x256 .i8) (harg3 : arg3.IsWhole) (arg4 : Memref sig .tc .vmem S2048x256 .i8) (harg4 : arg4.IsWhole) (arg5 : Memref sig .tc .vmem S1536x2048 .bf16) (harg5 : arg5.IsWhole) (arg6 : Memref sig .tc .vmem S1536x2048 .f32) (harg6 : arg6.IsWhole) (arg7 : Memref sig .tc .vmem S1536x1024 .bf16) (harg7 : arg7.IsWhole) (arg8 : Memref sig .tc .vmem S2048x1024 .bf16) (harg8 : arg8.IsWhole) (arg9 : Memref sig .tc .vmem S2x768x128 .i32) (harg9 : arg9.IsWhole) (arg10 : Memref sig .tc .vmem S2x1024x128 .i32) (harg10 : arg10.IsWhole) (hc0 : cond0_0 i) (hc1 : ¬cond0_1 i)
    (x0 : Vec F S1536x1024 .fp8e4m3) (x1 : Vec F S2048x1024 .fp8e4m3) (x2 : Vec F S1536x256 .i8) (x3 : Vec F S2048x256 .i8) : Vec F S2x768x128 .i32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 hc0 hc1 x0 x1 x2 x3).2.1)

/-- Case A's pieces for scratch `arg10`, which the kernel carries between points, cover it: 2 pieces of `S1x1024x128` tiling it (Lib/Ring.lean `Piece.tiledL`). -/
theorem scover0_A_4 (c : Dev nD) (i : grid0.Coords) (arg1 : Memref sig .tc .vmem S1536x1024 .fp8e4m3) (harg1 : arg1.IsWhole) (arg2 : Memref sig .tc .vmem S2048x1024 .fp8e4m3) (harg2 : arg2.IsWhole) (arg3 : Memref sig .tc .vmem S1536x256 .i8) (harg3 : arg3.IsWhole) (arg4 : Memref sig .tc .vmem S2048x256 .i8) (harg4 : arg4.IsWhole) (arg5 : Memref sig .tc .vmem S1536x2048 .bf16) (harg5 : arg5.IsWhole) (arg6 : Memref sig .tc .vmem S1536x2048 .f32) (harg6 : arg6.IsWhole) (arg7 : Memref sig .tc .vmem S1536x1024 .bf16) (harg7 : arg7.IsWhole) (arg8 : Memref sig .tc .vmem S2048x1024 .bf16) (harg8 : arg8.IsWhole) (arg9 : Memref sig .tc .vmem S2x768x128 .i32) (harg9 : arg9.IsWhole) (arg10 : Memref sig .tc .vmem S2x1024x128 .i32) (harg10 : arg10.IsWhole) (hc0 : cond0_0 i) (hc1 : ¬cond0_1 i)
    (x0 : Vec F S1536x1024 .fp8e4m3) (x1 : Vec F S2048x1024 .fp8e4m3) (x2 : Vec F S1536x256 .i8) (x3 : Vec F S2048x256 .i8) (y : S2x1024x128.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3).2.2.1 S1x1024x128.size (by sl_kernel_rfl) y

/-- What case A leaves in scratch `arg10`: its pieces read back over junk. -/
def sout0_A_4 (c : Dev nD) (i : grid0.Coords) (arg1 : Memref sig .tc .vmem S1536x1024 .fp8e4m3) (harg1 : arg1.IsWhole) (arg2 : Memref sig .tc .vmem S2048x1024 .fp8e4m3) (harg2 : arg2.IsWhole) (arg3 : Memref sig .tc .vmem S1536x256 .i8) (harg3 : arg3.IsWhole) (arg4 : Memref sig .tc .vmem S2048x256 .i8) (harg4 : arg4.IsWhole) (arg5 : Memref sig .tc .vmem S1536x2048 .bf16) (harg5 : arg5.IsWhole) (arg6 : Memref sig .tc .vmem S1536x2048 .f32) (harg6 : arg6.IsWhole) (arg7 : Memref sig .tc .vmem S1536x1024 .bf16) (harg7 : arg7.IsWhole) (arg8 : Memref sig .tc .vmem S2048x1024 .bf16) (harg8 : arg8.IsWhole) (arg9 : Memref sig .tc .vmem S2x768x128 .i32) (harg9 : arg9.IsWhole) (arg10 : Memref sig .tc .vmem S2x1024x128 .i32) (harg10 : arg10.IsWhole) (hc0 : cond0_0 i) (hc1 : ¬cond0_1 i)
    (x0 : Vec F S1536x1024 .fp8e4m3) (x1 : Vec F S2048x1024 .fp8e4m3) (x2 : Vec F S1536x256 .i8) (x3 : Vec F S2048x256 .i8) : Vec F S2x1024x128 .i32 :=
  VS0_4.read (Elt F) (VS0_4.writes (Elt F) VS0_4.junk (kernelRun0_A c i arg1 harg1 arg2 harg2 arg3 harg3 arg4 harg4 arg5 harg5 arg6 harg6 arg7 harg7 arg8 harg8 arg9 harg9 arg10 harg10 hc0 hc1 x0 x1 x2 x3).2.2.1)

/-- Case B's pieces for scratch `arg6`, which the kernel carries between points, cover it: 3 pieces of `S512x2048` tiling it (Lib/Ring.lean `Piece.tiledL`). -/
theorem scover0_B_0 (c : Dev nD) (i : grid0.Coords) (arg1 : Memref sig .tc .vmem S1536x1024 .fp8e4m3) (harg1 : arg1.IsWhole) (arg2 : Memref sig .tc .vmem S2048x1024 .fp8e4m3) (harg2 : arg2.IsWhole) (arg3 : Memref sig .tc .vmem S1536x256 .i8) (harg3 : arg3.IsWhole) (arg4 : Memref sig .tc .vmem S2048x256 .i8) (harg4 : arg4.IsWhole) (arg5 : Memref sig .tc .vmem S1536x2048 .bf16) (harg5 : arg5.IsWhole) (arg6 : Memref sig .tc .vmem S1536x2048 .f32) (harg6 : arg6.IsWhole) (arg7 : Memref sig .tc .vmem S1536x1024 .bf16) (harg7 : arg7.IsWhole) (arg8 : Memref sig .tc .vmem S2048x1024 .bf16) (harg8 : arg8.IsWhole) (arg9 : Memref sig .tc .vmem S2x768x128 .i32) (harg9 : arg9.IsWhole) (arg10 : Memref sig .tc .vmem S2x1024x128 .i32) (harg10 : arg10.IsWhole) (hc0 : ¬cond0_0 i) (hc1 : ¬cond0_1 i)
    (x0 : Vec F S1536x1024 .fp8e4m3) (x1 : Vec F S2048x1024 .fp8e4m3) (x2 : Vec F S1536x256 .i8) (x3 : Vec F S2048x256 .i8) (xs0 : Vec F S1536x2048 .f32) (xs3 : Vec F S2x768x128 .i32) (xs4 : Vec F S2x1024x128 .i32) (y : S1536x2048.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 xs0 xs3 xs4).1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 xs0 xs3 xs4).1 S512x2048.size (by sl_kernel_rfl) y

/-- What case B leaves in scratch `arg6`: its pieces read back over junk. -/
def sout0_B_0 (c : Dev nD) (i : grid0.Coords) (arg1 : Memref sig .tc .vmem S1536x1024 .fp8e4m3) (harg1 : arg1.IsWhole) (arg2 : Memref sig .tc .vmem S2048x1024 .fp8e4m3) (harg2 : arg2.IsWhole) (arg3 : Memref sig .tc .vmem S1536x256 .i8) (harg3 : arg3.IsWhole) (arg4 : Memref sig .tc .vmem S2048x256 .i8) (harg4 : arg4.IsWhole) (arg5 : Memref sig .tc .vmem S1536x2048 .bf16) (harg5 : arg5.IsWhole) (arg6 : Memref sig .tc .vmem S1536x2048 .f32) (harg6 : arg6.IsWhole) (arg7 : Memref sig .tc .vmem S1536x1024 .bf16) (harg7 : arg7.IsWhole) (arg8 : Memref sig .tc .vmem S2048x1024 .bf16) (harg8 : arg8.IsWhole) (arg9 : Memref sig .tc .vmem S2x768x128 .i32) (harg9 : arg9.IsWhole) (arg10 : Memref sig .tc .vmem S2x1024x128 .i32) (harg10 : arg10.IsWhole) (hc0 : ¬cond0_0 i) (hc1 : ¬cond0_1 i)
    (x0 : Vec F S1536x1024 .fp8e4m3) (x1 : Vec F S2048x1024 .fp8e4m3) (x2 : Vec F S1536x256 .i8) (x3 : Vec F S2048x256 .i8) (xs0 : Vec F S1536x2048 .f32) (xs3 : Vec F S2x768x128 .i32) (xs4 : Vec F S2x1024x128 .i32) : Vec F S1536x2048 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 hc0 hc1 x0 x1 x2 x3 xs0 xs3 xs4).1)

/-- Case B stores nothing into scratch `arg9`: it holds what the point before left. -/
def sout0_B_3 (c : Dev nD) (i : grid0.Coords) (arg1 : Memref sig .tc .vmem S1536x1024 .fp8e4m3) (harg1 : arg1.IsWhole) (arg2 : Memref sig .tc .vmem S2048x1024 .fp8e4m3) (harg2 : arg2.IsWhole) (arg3 : Memref sig .tc .vmem S1536x256 .i8) (harg3 : arg3.IsWhole) (arg4 : Memref sig .tc .vmem S2048x256 .i8) (harg4 : arg4.IsWhole) (arg5 : Memref sig .tc .vmem S1536x2048 .bf16) (harg5 : arg5.IsWhole) (arg6 : Memref sig .tc .vmem S1536x2048 .f32) (harg6 : arg6.IsWhole) (arg7 : Memref sig .tc .vmem S1536x1024 .bf16) (harg7 : arg7.IsWhole) (arg8 : Memref sig .tc .vmem S2048x1024 .bf16) (harg8 : arg8.IsWhole) (arg9 : Memref sig .tc .vmem S2x768x128 .i32) (harg9 : arg9.IsWhole) (arg10 : Memref sig .tc .vmem S2x1024x128 .i32) (harg10 : arg10.IsWhole) (hc0 : ¬cond0_0 i) (hc1 : ¬cond0_1 i)
    (x0 : Vec F S1536x1024 .fp8e4m3) (x1 : Vec F S2048x1024 .fp8e4m3) (x2 : Vec F S1536x256 .i8) (x3 : Vec F S2048x256 .i8) (xs0 : Vec F S1536x2048 .f32) (xs3 : Vec F S2x768x128 .i32) (xs4 : Vec F S2x1024x128 .i32) : Vec F S2x768x128 .i32 := xs3

/-- Case B stores nothing into scratch `arg10`: it holds what the point before left. -/
def sout0_B_4 (c : Dev nD) (i : grid0.Coords) (arg1 : Memref sig .tc .vmem S1536x1024 .fp8e4m3) (harg1 : arg1.IsWhole) (arg2 : Memref sig .tc .vmem S2048x1024 .fp8e4m3) (harg2 : arg2.IsWhole) (arg3 : Memref sig .tc .vmem S1536x256 .i8) (harg3 : arg3.IsWhole) (arg4 : Memref sig .tc .vmem S2048x256 .i8) (harg4 : arg4.IsWhole) (arg5 : Memref sig .tc .vmem S1536x2048 .bf16) (harg5 : arg5.IsWhole) (arg6 : Memref sig .tc .vmem S1536x2048 .f32) (harg6 : arg6.IsWhole) (arg7 : Memref sig .tc .vmem S1536x1024 .bf16) (harg7 : arg7.IsWhole) (arg8 : Memref sig .tc .vmem S2048x1024 .bf16) (harg8 : arg8.IsWhole) (arg9 : Memref sig .tc .vmem S2x768x128 .i32) (harg9 : arg9.IsWhole) (arg10 : Memref sig .tc .vmem S2x1024x128 .i32) (harg10 : arg10.IsWhole) (hc0 : ¬cond0_0 i) (hc1 : ¬cond0_1 i)
    (x0 : Vec F S1536x1024 .fp8e4m3) (x1 : Vec F S2048x1024 .fp8e4m3) (x2 : Vec F S1536x256 .i8) (x3 : Vec F S2048x256 .i8) (xs0 : Vec F S1536x2048 .f32) (xs3 : Vec F S2x768x128 .i32) (xs4 : Vec F S2x1024x128 .i32) : Vec F S2x1024x128 .i32 := xs4

/-- Case C's pieces for scratch `arg6`, which the kernel carries between points, cover it: 3 pieces of `S512x2048` tiling it (Lib/Ring.lean `Piece.tiledL`). -/
theorem scover0_C_0 (c : Dev nD) (i : grid0.Coords) (arg1 : Memref sig .tc .vmem S1536x1024 .fp8e4m3) (harg1 : arg1.IsWhole) (arg2 : Memref sig .tc .vmem S2048x1024 .fp8e4m3) (harg2 : arg2.IsWhole) (arg3 : Memref sig .tc .vmem S1536x256 .i8) (harg3 : arg3.IsWhole) (arg4 : Memref sig .tc .vmem S2048x256 .i8) (harg4 : arg4.IsWhole) (arg5 : Memref sig .tc .vmem S1536x2048 .bf16) (harg5 : arg5.IsWhole) (arg6 : Memref sig .tc .vmem S1536x2048 .f32) (harg6 : arg6.IsWhole) (arg7 : Memref sig .tc .vmem S1536x1024 .bf16) (harg7 : arg7.IsWhole) (arg8 : Memref sig .tc .vmem S2048x1024 .bf16) (harg8 : arg8.IsWhole) (arg9 : Memref sig .tc .vmem S2x768x128 .i32) (harg9 : arg9.IsWhole) (arg10 : Memref sig .tc .vmem S2x1024x128 .i32) (harg10 : arg10.IsWhole) (hc0 : ¬cond0_0 i) (hc1 : cond0_1 i)
    (x0 : Vec F S1536x1024 .fp8e4m3) (x1 : Vec F S2048x1024 .fp8e4m3) (x2 : Vec F S1536x256 .i8) (x3 : Vec F S2048x256 .i8) (xs0 : Vec F S1536x2048 .f32) (xs3 : Vec F S2x768x128 .i32) (xs4 : Vec F S2x1024x128 .i32) (y : S1536x2048.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 xs0 xs3 xs4).1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 xs0 xs3 xs4).1 S512x2048.size (by sl_kernel_rfl) y

/-- What case C leaves in scratch `arg6`: its pieces read back over junk. -/
def sout0_C_0 (c : Dev nD) (i : grid0.Coords) (arg1 : Memref sig .tc .vmem S1536x1024 .fp8e4m3) (harg1 : arg1.IsWhole) (arg2 : Memref sig .tc .vmem S2048x1024 .fp8e4m3) (harg2 : arg2.IsWhole) (arg3 : Memref sig .tc .vmem S1536x256 .i8) (harg3 : arg3.IsWhole) (arg4 : Memref sig .tc .vmem S2048x256 .i8) (harg4 : arg4.IsWhole) (arg5 : Memref sig .tc .vmem S1536x2048 .bf16) (harg5 : arg5.IsWhole) (arg6 : Memref sig .tc .vmem S1536x2048 .f32) (harg6 : arg6.IsWhole) (arg7 : Memref sig .tc .vmem S1536x1024 .bf16) (harg7 : arg7.IsWhole) (arg8 : Memref sig .tc .vmem S2048x1024 .bf16) (harg8 : arg8.IsWhole) (arg9 : Memref sig .tc .vmem S2x768x128 .i32) (harg9 : arg9.IsWhole) (arg10 : Memref sig .tc .vmem S2x1024x128 .i32) (harg10 : arg10.IsWhole) (hc0 : ¬cond0_0 i) (hc1 : cond0_1 i)
    (x0 : Vec F S1536x1024 .fp8e4m3) (x1 : Vec F S2048x1024 .fp8e4m3) (x2 : Vec F S1536x256 .i8) (x3 : Vec F S2048x256 .i8) (xs0 : Vec F S1536x2048 .f32) (xs3 : Vec F S2x768x128 .i32) (xs4 : Vec F S2x1024x128 .i32) : Vec F S1536x2048 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 hc0 hc1 x0 x1 x2 x3 xs0 xs3 xs4).1)

/-- Case C stores nothing into scratch `arg9`: it holds what the point before left. -/
def sout0_C_3 (c : Dev nD) (i : grid0.Coords) (arg1 : Memref sig .tc .vmem S1536x1024 .fp8e4m3) (harg1 : arg1.IsWhole) (arg2 : Memref sig .tc .vmem S2048x1024 .fp8e4m3) (harg2 : arg2.IsWhole) (arg3 : Memref sig .tc .vmem S1536x256 .i8) (harg3 : arg3.IsWhole) (arg4 : Memref sig .tc .vmem S2048x256 .i8) (harg4 : arg4.IsWhole) (arg5 : Memref sig .tc .vmem S1536x2048 .bf16) (harg5 : arg5.IsWhole) (arg6 : Memref sig .tc .vmem S1536x2048 .f32) (harg6 : arg6.IsWhole) (arg7 : Memref sig .tc .vmem S1536x1024 .bf16) (harg7 : arg7.IsWhole) (arg8 : Memref sig .tc .vmem S2048x1024 .bf16) (harg8 : arg8.IsWhole) (arg9 : Memref sig .tc .vmem S2x768x128 .i32) (harg9 : arg9.IsWhole) (arg10 : Memref sig .tc .vmem S2x1024x128 .i32) (harg10 : arg10.IsWhole) (hc0 : ¬cond0_0 i) (hc1 : cond0_1 i)
    (x0 : Vec F S1536x1024 .fp8e4m3) (x1 : Vec F S2048x1024 .fp8e4m3) (x2 : Vec F S1536x256 .i8) (x3 : Vec F S2048x256 .i8) (xs0 : Vec F S1536x2048 .f32) (xs3 : Vec F S2x768x128 .i32) (xs4 : Vec F S2x1024x128 .i32) : Vec F S2x768x128 .i32 := xs3

/-- Case C stores nothing into scratch `arg10`: it holds what the point before left. -/
def sout0_C_4 (c : Dev nD) (i : grid0.Coords) (arg1 : Memref sig .tc .vmem S1536x1024 .fp8e4m3) (harg1 : arg1.IsWhole) (arg2 : Memref sig .tc .vmem S2048x1024 .fp8e4m3) (harg2 : arg2.IsWhole) (arg3 : Memref sig .tc .vmem S1536x256 .i8) (harg3 : arg3.IsWhole) (arg4 : Memref sig .tc .vmem S2048x256 .i8) (harg4 : arg4.IsWhole) (arg5 : Memref sig .tc .vmem S1536x2048 .bf16) (harg5 : arg5.IsWhole) (arg6 : Memref sig .tc .vmem S1536x2048 .f32) (harg6 : arg6.IsWhole) (arg7 : Memref sig .tc .vmem S1536x1024 .bf16) (harg7 : arg7.IsWhole) (arg8 : Memref sig .tc .vmem S2048x1024 .bf16) (harg8 : arg8.IsWhole) (arg9 : Memref sig .tc .vmem S2x768x128 .i32) (harg9 : arg9.IsWhole) (arg10 : Memref sig .tc .vmem S2x1024x128 .i32) (harg10 : arg10.IsWhole) (hc0 : ¬cond0_0 i) (hc1 : cond0_1 i)
    (x0 : Vec F S1536x1024 .fp8e4m3) (x1 : Vec F S2048x1024 .fp8e4m3) (x2 : Vec F S1536x256 .i8) (x3 : Vec F S2048x256 .i8) (xs0 : Vec F S1536x2048 .f32) (xs3 : Vec F S2x768x128 .i32) (xs4 : Vec F S2x1024x128 .i32) : Vec F S2x1024x128 .i32 := xs4

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1536x2048 .f32 × Vec F S2x768x128 .i32 × Vec F S2x1024x128 .i32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 8 = 0 then
      if h1 : (n + 1) % 8 = 7 then
        False.elim (by have hN : n + 1 < 8 := lt_of_lt_of_eq hn (show cfg0.N = 8 from N_0); omega)
      else
        (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 8 = 7 then
        (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2, sout0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2)
      else
        (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2, sout0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 8 = 0) (h1 : ¬t.val % 8 = 7) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t), sout0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t), sout0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 8 = 0) (h1 : ¬t.val % 8 = 7) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 8 = 0) (h1 : t.val % 8 = 7) :
    outsAt0 m c t.val t.isLt = (sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ (∃ d, owns (c : Thread nD τ) scM0_1 fullShare d) ∗ (∃ d, owns (c : Thread nD τ) scM0_2 fullShare d) ∗ owns (c : Thread nD τ) scM0_3 fullShare ((outsAt0 m c n hn).2.1) ∗ owns (c : Thread nD τ) scM0_4 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ (∃ d, owns (c : Thread nD τ) scM0_1 fullShare d) ∗ (∃ d, owns (c : Thread nD τ) scM0_2 fullShare d) ∗ owns (c : Thread nD τ) scM0_3 fullShare ((outsAt0 m c n hn).2.1) ∗ owns (c : Thread nD τ) scM0_4 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ (∃ d, owns (c : Thread nD τ) scM0_1 fullShare d) ∗ (∃ d, owns (c : Thread nD τ) scM0_2 fullShare d) ∗ owns (c : Thread nD τ) scM0_3 fullShare ((outsAt0 m c (n - 1) (by omega)).2.1) ∗ owns (c : Thread nD τ) scM0_4 fullShare ((outsAt0 m c (n - 1) (by omega)).2.2)) ∗ (∃ r, prngReg c r)) := by
  cases n with
  | zero => exact absurd rfl hz
  | succ n => rfl

/-! ## The pipeline's proof data -/

/-- The output windows this certificate FORGETS (4): nothing reads what the kernel leaves in them, so nothing
    of it is named (Lib/Pipeline/Dat.lean `Dat.toRForget`). -/
def forgets0 : Fin 5 → Bool := fun w => w.val == 4

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  by_cases h0 : t.val % 8 = 0
  · by_cases h1 : t.val % 8 = 7
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      by_cases hz : t.val = 0
      · rw [PhiS_castSucc m c t, PhiS_zero m c _ _ hz, PhiA0_eq]
        rw [outsAt0_A m c t h0 h1]
        unfold sout0_A_0 sout0_A_3 sout0_A_4; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        isplitl [HS3]; · iexact HS3
        isplitl [HS4]; · iexact HS4
        iintro ⟨H0, H1, H2, H3, H4, ⟨%es0, HS0⟩, ⟨%fT1, HS1⟩, ⟨%fT2, HS2⟩, ⟨%es3, HS3⟩, ⟨%es4, HS4⟩⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            isplitl [HS1]
            · iexists _; unfold owns; iexists _; isplitr
              swap; · iexact HS1
              ipureintro; rfl
            isplitl [HS2]
            · iexists _; unfold owns; iexists _; isplitr
              swap; · iexact HS2
              ipureintro; rfl
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _ _ _ _)
            unfold owns; iexists _; isplitr
            swap; · iexact HS4
            ipureintro; exact View.read_writes_of_cover _ _ _ _ _ (scover0_A_4 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexact H4
      · exfalso; have hN : t.val < 8 := lt_of_lt_of_eq t.isLt (show cfg0.N = 8 from N_0); omega
  · by_cases h1 : t.val % 8 = 7
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      by_cases hz : t.val = 0
      · exfalso; have hN : t.val < 8 := lt_of_lt_of_eq t.isLt (show cfg0.N = 8 from N_0); omega
      · rw [PhiS_castSucc m c t, PhiS_pos m c _ _ hz]
        rw [outsAt0_C m c t h0 h1]
        unfold sout0_C_0 sout0_C_3 sout0_C_4; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) _ _ _).2.2.2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        isplitl [HS3]; · iexact HS3
        isplitl [HS4]; · iexact HS4
        iintro ⟨H0, H1, H2, H3, H4, ⟨%es0, HS0⟩, ⟨%fT1, HS1⟩, ⟨%fT2, HS2⟩, HS3, HS4⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _)
            isplitl [HS1]
            · iexists _; unfold owns; iexists _; isplitr
              swap; · iexact HS1
              ipureintro; rfl
            isplitl [HS2]
            · iexists _; unfold owns; iexists _; isplitr
              swap; · iexact HS2
              ipureintro; rfl
            isplitl [HS3]
            · iexact HS3
            iexact HS4
          iexact Hg
        isplitl [Ho]; · iexact Ho
        isplitl [H0]; · iexact H0
        isplitl [H1]; · iexact H1
        isplitl [H2]; · iexact H2
        isplitl [H3]; · iexact H3
        iexact H4
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      by_cases hz : t.val = 0
      · exfalso; have hN : t.val < 8 := lt_of_lt_of_eq t.isLt (show cfg0.N = 8 from N_0); omega
      · rw [PhiS_castSucc m c t, PhiS_pos m c _ _ hz]
        rw [outsAt0_B m c t h0 h1]
        unfold sout0_B_0 sout0_B_3 sout0_B_4; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _ _).2.2.2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        isplitl [HS3]; · iexact HS3
        isplitl [HS4]; · iexact HS4
        iintro ⟨H0, H1, H2, H3, H4, ⟨%es0, HS0⟩, ⟨%fT1, HS1⟩, ⟨%fT2, HS2⟩, HS3, HS4⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _)
            isplitl [HS1]
            · iexists _; unfold owns; iexists _; isplitr
              swap; · iexact HS1
              ipureintro; rfl
            isplitl [HS2]
            · iexists _; unfold owns; iexists _; isplitr
              swap; · iexact HS2
              ipureintro; rfl
            isplitl [HS3]
            · iexact HS3
            iexact HS4
          iexact Hg
        isplitl [Ho]; · iexact Ho
        isplitl [H0]; · iexact H0
        isplitl [H1]; · iexact H1
        isplitl [H2]; · iexact H2
        isplitl [H3]; · iexact H3
        iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexact HS1
    isplitl [HS2]
    · iexact HS2
    isplitl [HS3]
    · iexists _; iexact HS3
    iexists _; iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

-- `θ_run_frame_around_T_track_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (window 4) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Gen

end
-- ==== Proof.KernelIdeal.Offs.lean ====
/- The offsets of the body's loads of the packed scale words, in closed form: every chain names
   the half of the contraction the point lies in, and the row its unit starts at. -/
module

public import proofs.«01_k».proof.Proof.Gen.KernelIdeal

@[expose] public section

noncomputable section

namespace Cert.KernelIdeal.Gen

open Idealize.ShloMosaic

/-- The word of a group of 128 contraction elements inside a point's block of 1024: one of the first eight words. -/
class GroupWord (c : BitVec 32) : Prop where
  /-- It is below eight. -/
  lt : c.toNat < 8

instance groupWord_0 : GroupWord (BitVec.ofNat 32 0) := ⟨by decide⟩
instance groupWord_1 : GroupWord (BitVec.ofNat 32 1) := ⟨by decide⟩
instance groupWord_2 : GroupWord (BitVec.ofNat 32 2) := ⟨by decide⟩
instance groupWord_3 : GroupWord (BitVec.ofNat 32 3) := ⟨by decide⟩
instance groupWord_4 : GroupWord (BitVec.ofNat 32 4) := ⟨by decide⟩
instance groupWord_5 : GroupWord (BitVec.ofNat 32 5) := ⟨by decide⟩
instance groupWord_6 : GroupWord (BitVec.ofNat 32 6) := ⟨by decide⟩
instance groupWord_7 : GroupWord (BitVec.ofNat 32 7) := ⟨by decide⟩

/-- The chain `k0_off1` at group `r`: half `i / 4`, row 0. -/
theorem k0_off1_eq : ∀ i : grid0.Coords, ∀ r : Fin 8, k0_off1 i (BitVec.ofNat 32 r.val) = ![(i 0).val / 4, 0, 0] := by
  decide +kernel
instance closedOff_k0_off1 (i : grid0.Coords) (c : BitVec 32) [h : GroupWord c] : ClosedOff (k0_off1 i c) :=
  ⟨![(i 0).val / 4, 0, 0], by simpa only [BitVec.ofNat_toNat, BitVec.setWidth_eq] using k0_off1_eq i ⟨c.toNat, h.lt⟩⟩

/-- The chain `k0_off2` at group `r`: half `i / 4`, row 128. -/
theorem k0_off2_eq : ∀ i : grid0.Coords, ∀ r : Fin 8, k0_off2 i (BitVec.ofNat 32 r.val) = ![(i 0).val / 4, 128, 0] := by
  decide +kernel
instance closedOff_k0_off2 (i : grid0.Coords) (c : BitVec 32) [h : GroupWord c] : ClosedOff (k0_off2 i c) :=
  ⟨![(i 0).val / 4, 128, 0], by simpa only [BitVec.ofNat_toNat, BitVec.setWidth_eq] using k0_off2_eq i ⟨c.toNat, h.lt⟩⟩

/-- The chain `k0_off3` at group `r`: half `i / 4`, row 256. -/
theorem k0_off3_eq : ∀ i : grid0.Coords, ∀ r : Fin 8, k0_off3 i (BitVec.ofNat 32 r.val) = ![(i 0).val / 4, 256, 0] := by
  decide +kernel
instance closedOff_k0_off3 (i : grid0.Coords) (c : BitVec 32) [h : GroupWord c] : ClosedOff (k0_off3 i c) :=
  ⟨![(i 0).val / 4, 256, 0], by simpa only [BitVec.ofNat_toNat, BitVec.setWidth_eq] using k0_off3_eq i ⟨c.toNat, h.lt⟩⟩

/-- The chain `k0_off4` at group `r`: half `i / 4`, row 384. -/
theorem k0_off4_eq : ∀ i : grid0.Coords, ∀ r : Fin 8, k0_off4 i (BitVec.ofNat 32 r.val) = ![(i 0).val / 4, 384, 0] := by
  decide +kernel
instance closedOff_k0_off4 (i : grid0.Coords) (c : BitVec 32) [h : GroupWord c] : ClosedOff (k0_off4 i c) :=
  ⟨![(i 0).val / 4, 384, 0], by simpa only [BitVec.ofNat_toNat, BitVec.setWidth_eq] using k0_off4_eq i ⟨c.toNat, h.lt⟩⟩

/-- The chain `k0_off5` at group `r`: half `i / 4`, row 512. -/
theorem k0_off5_eq : ∀ i : grid0.Coords, ∀ r : Fin 8, k0_off5 i (BitVec.ofNat 32 r.val) = ![(i 0).val / 4, 512, 0] := by
  decide +kernel
instance closedOff_k0_off5 (i : grid0.Coords) (c : BitVec 32) [h : GroupWord c] : ClosedOff (k0_off5 i c) :=
  ⟨![(i 0).val / 4, 512, 0], by simpa only [BitVec.ofNat_toNat, BitVec.setWidth_eq] using k0_off5_eq i ⟨c.toNat, h.lt⟩⟩

/-- The chain `k0_off6` at group `r`: half `i / 4`, row 640. -/
theorem k0_off6_eq : ∀ i : grid0.Coords, ∀ r : Fin 8, k0_off6 i (BitVec.ofNat 32 r.val) = ![(i 0).val / 4, 640, 0] := by
  decide +kernel
instance closedOff_k0_off6 (i : grid0.Coords) (c : BitVec 32) [h : GroupWord c] : ClosedOff (k0_off6 i c) :=
  ⟨![(i 0).val / 4, 640, 0], by simpa only [BitVec.ofNat_toNat, BitVec.setWidth_eq] using k0_off6_eq i ⟨c.toNat, h.lt⟩⟩

/-- The chain `k0_off7` at group `r`: half `i / 4`, row 0. -/
theorem k0_off7_eq : ∀ i : grid0.Coords, ∀ r : Fin 8, k0_off7 i (BitVec.ofNat 32 r.val) = ![(i 0).val / 4, 0, 0] := by
  decide +kernel
instance closedOff_k0_off7 (i : grid0.Coords) (c : BitVec 32) [h : GroupWord c] : ClosedOff (k0_off7 i c) :=
  ⟨![(i 0).val / 4, 0, 0], by simpa only [BitVec.ofNat_toNat, BitVec.setWidth_eq] using k0_off7_eq i ⟨c.toNat, h.lt⟩⟩

/-- The chain `k0_off8` at group `r`: half `i / 4`, row 128. -/
theorem k0_off8_eq : ∀ i : grid0.Coords, ∀ r : Fin 8, k0_off8 i (BitVec.ofNat 32 r.val) = ![(i 0).val / 4, 128, 0] := by
  decide +kernel
instance closedOff_k0_off8 (i : grid0.Coords) (c : BitVec 32) [h : GroupWord c] : ClosedOff (k0_off8 i c) :=
  ⟨![(i 0).val / 4, 128, 0], by simpa only [BitVec.ofNat_toNat, BitVec.setWidth_eq] using k0_off8_eq i ⟨c.toNat, h.lt⟩⟩

/-- The chain `k0_off9` at group `r`: half `i / 4`, row 256. -/
theorem k0_off9_eq : ∀ i : grid0.Coords, ∀ r : Fin 8, k0_off9 i (BitVec.ofNat 32 r.val) = ![(i 0).val / 4, 256, 0] := by
  decide +kernel
instance closedOff_k0_off9 (i : grid0.Coords) (c : BitVec 32) [h : GroupWord c] : ClosedOff (k0_off9 i c) :=
  ⟨![(i 0).val / 4, 256, 0], by simpa only [BitVec.ofNat_toNat, BitVec.setWidth_eq] using k0_off9_eq i ⟨c.toNat, h.lt⟩⟩

/-- The chain `k0_off10` at group `r`: half `i / 4`, row 384. -/
theorem k0_off10_eq : ∀ i : grid0.Coords, ∀ r : Fin 8, k0_off10 i (BitVec.ofNat 32 r.val) = ![(i 0).val / 4, 384, 0] := by
  decide +kernel
instance closedOff_k0_off10 (i : grid0.Coords) (c : BitVec 32) [h : GroupWord c] : ClosedOff (k0_off10 i c) :=
  ⟨![(i 0).val / 4, 384, 0], by simpa only [BitVec.ofNat_toNat, BitVec.setWidth_eq] using k0_off10_eq i ⟨c.toNat, h.lt⟩⟩

/-- The chain `k0_off11` at group `r`: half `i / 4`, row 512. -/
theorem k0_off11_eq : ∀ i : grid0.Coords, ∀ r : Fin 8, k0_off11 i (BitVec.ofNat 32 r.val) = ![(i 0).val / 4, 512, 0] := by
  decide +kernel
instance closedOff_k0_off11 (i : grid0.Coords) (c : BitVec 32) [h : GroupWord c] : ClosedOff (k0_off11 i c) :=
  ⟨![(i 0).val / 4, 512, 0], by simpa only [BitVec.ofNat_toNat, BitVec.setWidth_eq] using k0_off11_eq i ⟨c.toNat, h.lt⟩⟩

/-- The chain `k0_off12` at group `r`: half `i / 4`, row 640. -/
theorem k0_off12_eq : ∀ i : grid0.Coords, ∀ r : Fin 8, k0_off12 i (BitVec.ofNat 32 r.val) = ![(i 0).val / 4, 640, 0] := by
  decide +kernel
instance closedOff_k0_off12 (i : grid0.Coords) (c : BitVec 32) [h : GroupWord c] : ClosedOff (k0_off12 i c) :=
  ⟨![(i 0).val / 4, 640, 0], by simpa only [BitVec.ofNat_toNat, BitVec.setWidth_eq] using k0_off12_eq i ⟨c.toNat, h.lt⟩⟩

/-- The chain `k0_off13` at group `r`: half `i / 4`, row 768. -/
theorem k0_off13_eq : ∀ i : grid0.Coords, ∀ r : Fin 8, k0_off13 i (BitVec.ofNat 32 r.val) = ![(i 0).val / 4, 768, 0] := by
  decide +kernel
instance closedOff_k0_off13 (i : grid0.Coords) (c : BitVec 32) [h : GroupWord c] : ClosedOff (k0_off13 i c) :=
  ⟨![(i 0).val / 4, 768, 0], by simpa only [BitVec.ofNat_toNat, BitVec.setWidth_eq] using k0_off13_eq i ⟨c.toNat, h.lt⟩⟩

/-- The chain `k0_off14` at group `r`: half `i / 4`, row 896. -/
theorem k0_off14_eq : ∀ i : grid0.Coords, ∀ r : Fin 8, k0_off14 i (BitVec.ofNat 32 r.val) = ![(i 0).val / 4, 896, 0] := by
  decide +kernel
instance closedOff_k0_off14 (i : grid0.Coords) (c : BitVec 32) [h : GroupWord c] : ClosedOff (k0_off14 i c) :=
  ⟨![(i 0).val / 4, 896, 0], by simpa only [BitVec.ofNat_toNat, BitVec.setWidth_eq] using k0_off14_eq i ⟨c.toNat, h.lt⟩⟩

end Cert.KernelIdeal.Gen

end
-- ==== Proof.KernelIdeal.Unit.lean ====
module

public import proofs.«01_k».proof.Proof.Gen.KernelIdeal.Skeleton
public import proofs.«01_k».proof.Proof.KernelIdeal.Offs
public import Idealize.ShloMosaic.Lib.Ring
public import Idealize.ShloMosaic.Lib.Pipeline.ValueKit
public import Idealize.ShloMosaic.Lib.BitcastPair

@[expose] public section

set_option maxRecDepth 16384

noncomputable section

namespace Cert.KernelIdeal.Value

open Cert.KernelIdeal Cert.KernelIdeal.Gen Idealize.ShloMosaic

/-- The group a lane belongs to within its tile of 128 lanes: 32 lanes to a group. -/
theorem lane_group (a l : Fin 128) : k0_pay10 (ix2 a l) = BitVec.ofNat 32 (l.val / 32) := by
  have h : ∀ l : Fin 128, k0_pay10 (ix2 0 l) = BitVec.ofNat 32 (l.val / 32) := by decide +kernel
  exact h l

/-- Adding the tile's first group to a lane's group, and reading the sum as a lane of the words. -/
theorem group_base (v : IVec S128x128 32) (n : Fin 64) (x : S128x128.Idx) :
    k0_pay84 v (BitVec.ofNat 32 n.val) x = v x + BitVec.ofNat 32 (4 * (n.val % 32)) := by
  have h : ∀ n : Fin 64, k0_pay84 (fun _ => 0) (BitVec.ofNat 32 n.val) (ix2 0 0) = BitVec.ofNat 32 (4 * (n.val % 32)) := by decide +kernel
  rw [← h n]
  refine congrArg (v x + ·) ?_
  exact (BitVec.zero_add _).symm

/-- Words read as sixteen-bit floats: row `y0` is half `y0 % 2` of row `y0 / 2` of the words. -/
theorem word_half (x : IVec S128x128 32) (y0 : Fin 256) (y1 : Fin 128) :
    bitcast S256x128 16 x bitcasts_S128x128_w32_S256x128_w16 (ix2 y0 y1)
      = (x (ix2 ⟨y0.val / 2, by omega⟩ y1)).extractLsb' (16 * (y0.val % 2)) 16 := by
  rw [bitcast_32_16]
  refine congrArg (fun i => (x i).extractLsb' (16 * (y0.val % 2)) 16) ?_
  funext a
  match a with
  | ⟨0, _⟩ => rfl
  | ⟨1, _⟩ => rfl

/-- The lane of the packed words that lane `l` of tile `n` reads. -/
theorem lane_word (n : Fin 64) (a l : Fin 128) :
    (Scalar.select (IntOp.cmpi .slt (k0_pay84 k0_pay10 (BitVec.ofNat 32 n.val) (ix2 a l)) 0#32)
      (IntOp.addi (k0_pay84 k0_pay10 (BitVec.ofNat 32 n.val) (ix2 a l)) 128#32)
      (k0_pay84 k0_pay10 (BitVec.ofNat 32 n.val) (ix2 a l))).toNat % 128 = 4 * (n.val % 32) + l.val / 32 := by
  have h : ∀ b : Fin 32, ∀ d : Fin 4, (Scalar.select (IntOp.cmpi .slt (BitVec.ofNat 32 d.val + BitVec.ofNat 32 (4 * b.val)) 0#32)
      (IntOp.addi (BitVec.ofNat 32 d.val + BitVec.ofNat 32 (4 * b.val)) 128#32)
      (BitVec.ofNat 32 d.val + BitVec.ofNat 32 (4 * b.val))).toNat % 128 = 4 * b.val + d.val := by decide +kernel
  rw [group_base, lane_group]
  exact h ⟨n.val % 32, by omega⟩ ⟨l.val / 32, by omega⟩

/-- One stored unit at an index: the code times the half of the packed word of its group. -/
theorem unit_at (w : Vec Ideal S1x128x128 .i32) (q : Vec Ideal S256x128 .fp8e4m3) (n : Fin 64) (y0 : Fin 256) (y1 : Fin 128) :
    k0_pay93 (F := Ideal) (k0_pay84 k0_pay10 (BitVec.ofNat 32 n.val)) w q (ix2 y0 y1) =
      (q (ix2 y0 y1) : EReal) * Ideal.ofBits .bf16 ((w (ix3 0 ⟨y0.val / 2, by omega⟩ ⟨4 * (n.val % 32) + y1.val / 32, by omega⟩)).extractLsb' (16 * (y0.val % 2)) 16) := by
  pointwise [k0_pay93, word_half]
  simp only [lane_word]

/-- A half of a packed word, read as a scale. -/
def half (w : BitVec 32) (p : ℕ) : EReal := Ideal.ofBits .bf16 (w.extractLsb' (16 * (p % 2)) 16)

/-- The dequantised block of point `k`: code times the scale the packed words hold for it. -/
def deq {a b : ℕ} (hab : a = 2 * b) (k : Fin 8) (D : (⟨2, ![a, 1024]⟩ : Shape).Idx → EReal)
    (W : (⟨3, ![2, b, 128]⟩ : Shape).Idx → BitVec 32) (r : Fin a) (l : Fin 1024) : EReal :=
  D (ix2 r l) * half (W (ix3 ⟨k.val / 4, by omega⟩ ⟨r.val / 2, by omega⟩ ⟨32 * (k.val % 4) + l.val / 32, by omega⟩)) r.val

/-- The word of group `c` of point `i`. -/
abbrev groupWord (i : grid0.Coords) (c : Fin 8) : BitVec 32 :=
  Scalar.addi (Scalar.muli (BitVec.ofNat 32 (i 0).val) 8#32) (BitVec.ofNat 32 c.val)

/-- What the kernel stores for one unit, over the loads it reads. -/
def unitPay {a b : ℕ} (i : grid0.Coords) (D : (⟨2, ![a, 1024]⟩ : Shape).Idx → EReal)
    (W : (⟨3, ![2, b, 128]⟩ : Shape).Idx → BitVec 32) (c : Fin 8) (off : Fin 2 → ℕ) (offw : Fin 3 → ℕ)
    (inb : ∀ x, off x + S256x128.size x ≤ (⟨2, ![a, 1024]⟩ : Shape).size x)
    (inbw : ∀ x, offw x + S1x128x128.size x ≤ (⟨3, ![2, b, 128]⟩ : Shape).size x) : Vec Ideal S256x128 .bf16 :=
  k0_pay93 (F := Ideal) (k0_pay84 k0_pay10 (groupWord i c))
    (fun y => W ((Rect.unit (s := ⟨3, ![2, b, 128]⟩) offw S1x128x128.size inbw).idx y))
    (fun y => D ((Rect.unit (s := ⟨2, ![a, 1024]⟩) off S256x128.size inb).idx y))

/-- The grid's arithmetic on the group of a tile, as a number. -/
theorem groupWord_eq (i : grid0.Coords) (c : Fin 8) (h : 8 * (i 0).val + c.val < 64) :
    groupWord i c = BitVec.ofNat 32 ((⟨8 * (i 0).val + c.val, h⟩ : Fin 64)).val := by
  have h : ∀ k c : Fin 8, Scalar.addi (Scalar.muli (BitVec.ofNat 32 k.val) 8#32) (BitVec.ofNat 32 c.val) = BitVec.ofNat 32 (8 * k.val + c.val) := by decide +kernel
  exact h (i 0) c

/-- What the kernel stores for one unit is the dequantised block at the unit's place. -/
theorem unitPay_at {a b : ℕ} (hab : a = 2 * b) (i : grid0.Coords) (D : (⟨2, ![a, 1024]⟩ : Shape).Idx → EReal)
    (W : (⟨3, ![2, b, 128]⟩ : Shape).Idx → BitVec 32) (c : Fin 8) (n : ℕ) {off : Fin 2 → ℕ} {offw : Fin 3 → ℕ}
    (hoff : off = ![256 * n, 128 * c.val]) (hoffw : offw = ![(i 0).val / 4, 128 * n, 0])
    (inb : ∀ x, off x + S256x128.size x ≤ (⟨2, ![a, 1024]⟩ : Shape).size x)
    (inbw : ∀ x, offw x + S1x128x128.size x ≤ (⟨3, ![2, b, 128]⟩ : Shape).size x) (x : S256x128.Idx) :
    unitPay i D W c off offw inb inbw x
      = deq hab (i 0) D W ((Rect.unit (s := ⟨2, ![a, 1024]⟩) off S256x128.size inb).emb x 0)
          ((Rect.unit (s := ⟨2, ![a, 1024]⟩) off S256x128.size inb).emb x 1) := by
  subst hoff hoffw
  have hi : (i 0).val < 8 := (i 0).isLt
  have hn : 8 * (i 0).val + c.val < 64 := by omega
  have hb : 128 * n + 128 ≤ b := inbw 1
  obtain ⟨y0, y1, rfl⟩ : ∃ (y0 : Fin 256) (y1 : Fin 128), x = ix2 y0 y1 := ⟨x 0, x 1, by
    funext e
    match e with
    | ⟨0, _⟩ => rfl
    | ⟨1, _⟩ => rfl⟩
  rw [unitPay, groupWord_eq i c hn]
  refine (unit_at _ _ _ y0 y1).trans ?_
  show _ = D (ix2 _ _) * Ideal.ofBits .bf16 (BitVec.extractLsb' (16 * (_ % 2)) 16 (W (ix3 _ _ _)))
  refine congrArg₂ (· * ·) (congrArg D ?_) (congrArg (Ideal.ofBits .bf16)
    (congrArg₂ (fun p w => BitVec.extractLsb' (16 * p) 16 w) ?_ (congrArg W ?_)))
  · funext e
    match e with
    | ⟨0, _⟩ => rfl
    | ⟨1, _⟩ => rfl
  · show y0.val % 2 = (256 * n + 1 * y0.val) % 2
    omega
  · funext e
    apply Fin.ext
    match e with
    | ⟨0, _⟩ => show (i 0).val / 4 + 1 * 0 = (i 0).val / 4; omega
    | ⟨1, _⟩ => show 128 * n + 1 * (y0.val / 2) = (256 * n + 1 * y0.val) / 2; omega
    | ⟨2, _⟩ =>
      show 0 + 1 * (4 * ((8 * (i 0).val + c.val) % 32) + y1.val / 32) = 32 * ((i 0).val % 4) + (128 * c.val + 1 * y1.val) / 32
      omega

/-- The same for a unit of the weight, whose codes the kernel reads without a cast. -/
def unitPayW {a b : ℕ} (i : grid0.Coords) (D : (⟨2, ![a, 1024]⟩ : Shape).Idx → EReal)
    (W : (⟨3, ![2, b, 128]⟩ : Shape).Idx → BitVec 32) (c : Fin 8) (off : Fin 2 → ℕ) (offw : Fin 3 → ℕ)
    (inb : ∀ x, off x + S256x128.size x ≤ (⟨2, ![a, 1024]⟩ : Shape).size x)
    (inbw : ∀ x, offw x + S1x128x128.size x ≤ (⟨3, ![2, b, 128]⟩ : Shape).size x) : Vec Ideal S256x128 .bf16 :=
  k0_pay198 (F := Ideal) (k0_pay187 k0_pay94 (groupWord i c))
    (fun y => W ((Rect.unit (s := ⟨3, ![2, b, 128]⟩) offw S1x128x128.size inbw).idx y))
    (fun y => D ((Rect.unit (s := ⟨2, ![a, 1024]⟩) off S256x128.size inb).idx y))

/-- The two spellings of a unit agree. -/
theorem unitPayW_eq {a b : ℕ} (i : grid0.Coords) (D : (⟨2, ![a, 1024]⟩ : Shape).Idx → EReal)
    (W : (⟨3, ![2, b, 128]⟩ : Shape).Idx → BitVec 32) (c : Fin 8) (off : Fin 2 → ℕ) (offw : Fin 3 → ℕ)
    (inb : ∀ x, off x + S256x128.size x ≤ (⟨2, ![a, 1024]⟩ : Shape).size x)
    (inbw : ∀ x, offw x + S1x128x128.size x ≤ (⟨3, ![2, b, 128]⟩ : Shape).size x) :
    unitPayW i D W c off offw inb inbw = unitPay i D W c off offw inb inbw := by
  have h : ∀ g w q, k0_pay198 (F := Ideal) g w q = k0_pay93 (F := Ideal) g w q := fun g w q => by
    funext x
    pointwise [k0_pay198, k0_pay93]
  exact h _ _ _

/-- Unit `n` of group `c` lies inside a block of `256 * r` rows. -/
theorem unit_inb {r : ℕ} (n : Fin r) (c : Fin 8) :
    ∀ x, ![256 * n.val, 128 * c.val] x + S256x128.size x ≤ (⟨2, ![256 * r, 1024]⟩ : Shape).size x := fun x => by
  match x with
  | 0 => show 256 * n.val + 256 ≤ 256 * r; omega
  | 1 => show 128 * c.val + 128 ≤ 1024; omega

/-- The offset of the packed words of unit `n` of the gradient, as the kernel spells it. -/
def offDy (i : grid0.Coords) (c : Fin 8) : Fin 6 → Fin 3 → ℕ
  | 0 => k0_off1 i (BitVec.ofNat 32 c.val)
  | 1 => k0_off2 i (BitVec.ofNat 32 c.val)
  | 2 => k0_off3 i (BitVec.ofNat 32 c.val)
  | 3 => k0_off4 i (BitVec.ofNat 32 c.val)
  | 4 => k0_off5 i (BitVec.ofNat 32 c.val)
  | 5 => k0_off6 i (BitVec.ofNat 32 c.val)

/-- It is half `i / 4`, row `128 * n`. -/
theorem offDy_eq (i : grid0.Coords) (c : Fin 8) : ∀ n : Fin 6, offDy i c n = ![(i 0).val / 4, 128 * n.val, 0]
  | 0 => k0_off1_eq i c
  | 1 => k0_off2_eq i c
  | 2 => k0_off3_eq i c
  | 3 => k0_off4_eq i c
  | 4 => k0_off5_eq i c
  | 5 => k0_off6_eq i c

/-- The unit's words lie inside the packed words. -/
theorem offDy_inb (i : grid0.Coords) (c : Fin 8) : ∀ n : Fin 6, ∀ x, offDy i c n x + S1x128x128.size x ≤ (⟨3, ![2, 768, 128]⟩ : Shape).size x
  | 0 => k0_off1_inb i c
  | 1 => k0_off2_inb i c
  | 2 => k0_off3_inb i c
  | 3 => k0_off4_inb i c
  | 4 => k0_off5_inb i c
  | 5 => k0_off6_inb i c

/-- The pieces the kernel stores of the dequantised block of the gradient, last first. -/
def piecesDy (i : grid0.Coords) (D : (⟨2, ![1536, 1024]⟩ : Shape).Idx → EReal) (W : (⟨3, ![2, 768, 128]⟩ : Shape).Idx → BitVec 32) :
    List (View.Piece (Elt Ideal) ⟨2, ![1536, 1024]⟩ .bf16) :=
  ([7, 6, 5, 4, 3, 2, 1, 0] : List (Fin 8)).flatMap fun c => ([5, 4, 3, 2, 1, 0] : List (Fin 6)).map fun n =>
    ⟨Rect.unit (s := ⟨2, ![1536, 1024]⟩) ![256 * n.val, 128 * c.val] S256x128.size (unit_inb n c),
      unitPay i D W c ![256 * n.val, 128 * c.val] (offDy i c n) (unit_inb n c) (offDy_inb i c n)⟩

/-- Together they are the dequantised block of the gradient. -/
theorem canon_piecesDy (i : grid0.Coords) (D : (⟨2, ![1536, 1024]⟩ : Shape).Idx → EReal) (W : (⟨3, ![2, 768, 128]⟩ : Shape).Idx → BitVec 32)
    (L : List (View.Piece (Elt Ideal) ⟨2, ![1536, 1024]⟩ .bf16)) (hL : L = piecesDy i D W) :
    View.canon L = fun y => deq (a := 1536) (b := 768) rfl (i 0) D W (y 0) (y 1) := by
  subst hL
  refine funext fun y => View.canon_apply_of_pieces (Val := Elt Ideal) (S := ⟨2, ![1536, 1024]⟩) (e := .bf16)
    (fun y => deq (a := 1536) (b := 768) rfl (i 0) D W (y 0) (y 1)) _ (fun p hp x => ?_) y
    (View.cover_of_tiledL (piecesDy i D W) S256x128.size (by sl_kernel_rfl) y)
  obtain ⟨c, -, hp⟩ := List.mem_flatMap.mp hp
  obtain ⟨n, -, rfl⟩ := List.mem_map.mp hp
  exact unitPay_at rfl i D W c n.val rfl (offDy_eq i c n) _ _ x

/-- The offset of the packed words of unit `n` of the weight, as the kernel spells it. -/
def offW (i : grid0.Coords) (c : Fin 8) : Fin 8 → Fin 3 → ℕ
  | 0 => k0_off7 i (BitVec.ofNat 32 c.val)
  | 1 => k0_off8 i (BitVec.ofNat 32 c.val)
  | 2 => k0_off9 i (BitVec.ofNat 32 c.val)
  | 3 => k0_off10 i (BitVec.ofNat 32 c.val)
  | 4 => k0_off11 i (BitVec.ofNat 32 c.val)
  | 5 => k0_off12 i (BitVec.ofNat 32 c.val)
  | 6 => k0_off13 i (BitVec.ofNat 32 c.val)
  | 7 => k0_off14 i (BitVec.ofNat 32 c.val)

/-- It is half `i / 4`, row `128 * n`. -/
theorem offW_eq (i : grid0.Coords) (c : Fin 8) : ∀ n : Fin 8, offW i c n = ![(i 0).val / 4, 128 * n.val, 0]
  | 0 => k0_off7_eq i c
  | 1 => k0_off8_eq i c
  | 2 => k0_off9_eq i c
  | 3 => k0_off10_eq i c
  | 4 => k0_off11_eq i c
  | 5 => k0_off12_eq i c
  | 6 => k0_off13_eq i c
  | 7 => k0_off14_eq i c

/-- The unit's words lie inside the packed words. -/
theorem offW_inb (i : grid0.Coords) (c : Fin 8) : ∀ n : Fin 8, ∀ x, offW i c n x + S1x128x128.size x ≤ (⟨3, ![2, 1024, 128]⟩ : Shape).size x
  | 0 => k0_off7_inb i c
  | 1 => k0_off8_inb i c
  | 2 => k0_off9_inb i c
  | 3 => k0_off10_inb i c
  | 4 => k0_off11_inb i c
  | 5 => k0_off12_inb i c
  | 6 => k0_off13_inb i c
  | 7 => k0_off14_inb i c

/-- The pieces the kernel stores of the dequantised block of the weight, last first. -/
def piecesW (i : grid0.Coords) (D : (⟨2, ![2048, 1024]⟩ : Shape).Idx → EReal) (W : (⟨3, ![2, 1024, 128]⟩ : Shape).Idx → BitVec 32) :
    List (View.Piece (Elt Ideal) ⟨2, ![2048, 1024]⟩ .bf16) :=
  ([7, 6, 5, 4, 3, 2, 1, 0] : List (Fin 8)).flatMap fun c => ([7, 6, 5, 4, 3, 2, 1, 0] : List (Fin 8)).map fun n =>
    ⟨Rect.unit (s := ⟨2, ![2048, 1024]⟩) ![256 * n.val, 128 * c.val] S256x128.size (unit_inb n c),
      unitPayW i D W c ![256 * n.val, 128 * c.val] (offW i c n) (unit_inb n c) (offW_inb i c n)⟩

/-- Together they are the dequantised block of the weight. -/
theorem canon_piecesW (i : grid0.Coords) (D : (⟨2, ![2048, 1024]⟩ : Shape).Idx → EReal) (W : (⟨3, ![2, 1024, 128]⟩ : Shape).Idx → BitVec 32)
    (L : List (View.Piece (Elt Ideal) ⟨2, ![2048, 1024]⟩ .bf16)) (hL : L = piecesW i D W) :
    View.canon L = fun y => deq (a := 2048) (b := 1024) rfl (i 0) D W (y 0) (y 1) := by
  subst hL
  refine funext fun y => View.canon_apply_of_pieces (Val := Elt Ideal) (S := ⟨2, ![2048, 1024]⟩) (e := .bf16)
    (fun y => deq (a := 2048) (b := 1024) rfl (i 0) D W (y 0) (y 1)) _ (fun p hp x => ?_) y
    (View.cover_of_tiledL (piecesW i D W) S256x128.size (by sl_kernel_rfl) y)
  obtain ⟨c, -, hp⟩ := List.mem_flatMap.mp hp
  obtain ⟨n, -, rfl⟩ := List.mem_map.mp hp
  refine (congrFun (unitPayW_eq i D W c _ _ _ _) x).trans ?_
  exact unitPay_at rfl i D W c n.val rfl (offW_eq i c n) _ _ x

end Cert.KernelIdeal.Value
-- ==== Proof.KernelIdeal.Acc.lean ====
module

public import proofs.«01_k».proof.Proof.KernelIdeal.Unit
public import Idealize.ShloMosaic.Lib.Writes

@[expose] public section

set_option maxRecDepth 16384

noncomputable section

namespace Cert.KernelIdeal.Value

open Cert.KernelIdeal Cert.KernelIdeal.Gen Idealize.ShloMosaic

/-- What one point adds to the accumulator: the product of the two dequantised blocks over the point's 1024 lanes. -/
def part (A : S1536x1024.Idx → EReal) (B : S2048x1024.Idx → EReal) (y : S1536x2048.Idx) : EReal :=
  ∑ k : Fin 1024, A (ix2 (y 0) k) * B (ix2 (y 1) k)

/-- One chunk of 512 rows: the accumulator's rows plus the chunk's product. -/
theorem chunk_at (acc : Vec Ideal S512x2048 .f32) (a : Vec Ideal S512x1024 .bf16) (b : Vec Ideal S2048x1024 .bf16) (y : S512x2048.Idx) :
    k0_pay201 (F := Ideal) acc a b y = (acc y : EReal) + ∑ k : Fin 1024, (a (ix2 (y 0) k) : EReal) * b (ix2 (y 1) k) := by
  pointwise [k0_pay201]

/-- The chunk's rows lie inside the array. -/
theorem rows_inb (w : ℕ) (n : Fin 3) : ∀ x, ![512 * n.val, 0] x + (⟨2, ![512, w]⟩ : Shape).size x ≤ (⟨2, ![1536, w]⟩ : Shape).size x := fun x => by
  match x with
  | 0 => show 512 * n.val + 512 ≤ 1536; omega
  | 1 => show 0 + w ≤ w; omega

/-- The whole of the weight block lies inside it. -/
theorem whole_inb : ∀ x, ![0, 0] x + S2048x1024.size x ≤ S2048x1024.size x := by decide

/-- The chunk of rows `512 * n` and on, written over the loads `l` of the accumulator. -/
def chunk (A : S1536x1024.Idx → EReal) (B : S2048x1024.Idx → EReal) (n : Fin 3) (l : S512x2048.Idx → EReal) : Vec Ideal S512x2048 .f32 :=
  k0_pay201 (F := Ideal) l (fun j => A ((Rect.unit (s := S1536x1024) ![512 * n.val, 0] S512x1024.size (rows_inb 1024 n)).idx j))
    (fun j => B ((Rect.unit (s := S2048x1024) ![0, 0] S2048x1024.size whole_inb).idx j))

/-- A chunk holds the accumulator plus the point's product on its rows. -/
theorem chunk_eq (A : S1536x1024.Idx → EReal) (B : S2048x1024.Idx → EReal) (n : Fin 3) (l : S512x2048.Idx → EReal)
    (y : S1536x2048.Idx) (x : S512x2048.Idx) (h0 : (y 0).val = 512 * n.val + (x 0).val) (h1 : (y 1).val = (x 1).val) :
    chunk A B n l x = l x + part A B y := by
  refine (chunk_at l _ _ x).trans (congrArg (l x + ·) (Finset.sum_congr rfl fun k _ => ?_))
  refine congrArg₂ (fun i j => A i * B j) (funext fun a => Fin.ext ?_) (funext fun a => Fin.ext ?_)
  · match a with
    | 0 => show 512 * n.val + 1 * (x 0).val = (y 0).val; omega
    | 1 => show 0 + 1 * k.val = k.val; omega
  · match a with
    | 0 => show 0 + 1 * (x 1).val = (y 1).val; omega
    | 1 => show 0 + 1 * k.val = k.val; omega

/-- Rows `512 * n` and on of the accumulator, as a piece. -/
abbrev rows (n : Fin 3) : Rect S1536x2048 :=
  Rect.unit (s := S1536x2048) ![512 * n.val, 0] S512x2048.size (rows_inb 2048 n)

/-- An index outside a chunk's rows is not in its piece. -/
theorem not_mem_rows (n : Fin 3) (y : S1536x2048.Idx) (hy : (y 0).val < 512 * n.val ∨ 512 * n.val + 512 ≤ (y 0).val) : y ∉ (rows n).set :=
  Rect.not_mem_set_of_axis (rows n) y (0 : Fin 2) (512 * n.val) 512 rfl rfl rfl hy

/-- One chunk's piece. -/
def accPiece (A : S1536x1024.Idx → EReal) (B : S2048x1024.Idx → EReal) (n : Fin 3) (l : S512x2048.Idx → EReal) :
    View.Piece (Elt Ideal) S1536x2048 .f32 := ⟨rows n, chunk A B n l⟩

/-- On its rows the newest chunk is what is read. -/
theorem canon_rows (X : S1536x2048.Idx → EReal) (A : S1536x1024.Idx → EReal) (B : S2048x1024.Idx → EReal) (n : Fin 3)
    (l : S512x2048.Idx → EReal) (T : List (View.Piece (Elt Ideal) S1536x2048 .f32)) (hl : ∀ x, l x = X ((rows n).emb x))
    (y : S1536x2048.Idx) (h1 : 512 * n.val ≤ (y 0).val) (h2 : (y 0).val < 512 * n.val + 512) :
    View.canon (accPiece A B n l :: T) y = X y + part A B y := by
  let x : S512x2048.Idx := ix2 ⟨(y 0).val - 512 * n.val, by omega⟩ (y 1)
  have hx : (rows n).emb x = y := Rect.emb_eq_of_coords (rows n) x y fun a => by
    match a with
    | 0 => show (y 0).val = 512 * n.val + 1 * ((y 0).val - 512 * n.val); omega
    | 1 => show (y 1).val = 0 + 1 * (y 1).val; omega
  have e := View.canon_cons_emb (Val := Elt Ideal) (rows n) (chunk A B n l) T x
  rw [hx] at e
  refine e.trans ((chunk_eq A B n l y x ?_ rfl).trans ?_)
  · show (y 0).val = 512 * n.val + ((y 0).val - 512 * n.val); omega
  · rw [hl, hx]

/-- Off its rows, what was there before. -/
theorem canon_rows_of_lt (A : S1536x1024.Idx → EReal) (B : S2048x1024.Idx → EReal) (n : Fin 3)
    (l : S512x2048.Idx → EReal) (T : List (View.Piece (Elt Ideal) S1536x2048 .f32))
    (y : S1536x2048.Idx) (h : (y 0).val < 512 * n.val ∨ 512 * n.val + 512 ≤ (y 0).val) :
    View.canon (accPiece A B n l :: T) y = View.canon T y :=
  View.canon_cons_of_not_mem _ _ (not_mem_rows n y h)

/-- The accumulator after a point: three chunks stored over the loads `l`, which read `X`, hold `X` plus the point's product,
    whatever was stored before them. -/
theorem canon_acc (X : S1536x2048.Idx → EReal) (A : S1536x1024.Idx → EReal) (B : S2048x1024.Idx → EReal)
    (l : Fin 3 → S512x2048.Idx → EReal) (T L : List (View.Piece (Elt Ideal) S1536x2048 .f32))
    (hl : ∀ n, ∀ x, l n x = X ((rows n).emb x))
    (hL : L = accPiece A B 2 (l 2) :: accPiece A B 1 (l 1) :: accPiece A B 0 (l 0) :: T) :
    View.canon L = fun y => X y + part A B y := by
  subst hL
  funext y
  have hy : (y 0).val < 1536 := (y 0).isLt
  have e0 : (0 : Fin 3).val = 0 := rfl
  have e1 : (1 : Fin 3).val = 1 := rfl
  have e2 : (2 : Fin 3).val = 2 := rfl
  by_cases h2 : 1024 ≤ (y 0).val
  · exact canon_rows X A B 2 (l 2) _ (hl 2) y (by omega) (by omega)
  rw [canon_rows_of_lt A B 2 (l 2) _ y (by omega)]
  by_cases h1 : 512 ≤ (y 0).val
  · exact canon_rows X A B 1 (l 1) _ (hl 1) y (by omega) (by omega)
  rw [canon_rows_of_lt A B 1 (l 1) _ y (by omega)]
  exact canon_rows X A B 0 (l 0) _ (hl 0) y (by omega) (by omega)

/-- The zero fill of the accumulator. -/
def zeroPiece : View.Piece (Elt Ideal) S1536x2048 .f32 :=
  ⟨Rect.unit (s := S1536x2048) ![0, 0] ![1536, 2048] inb_S1536x2048_S1536x2048_0_0, k0_pay3 (F := Ideal)⟩

/-- It reads zero. -/
theorem canon_zero (y : S1536x2048.Idx) : View.canon [zeroPiece] y = (0 : EReal) := by
  unfold zeroPiece
  refine (congrFun (View.canon_cons_unit_lit (S := S1536x2048) _ _ _ (by decide)) y).trans ?_
  pointwise [k0_pay3]

/-- What the first point's chunks load: the accumulator under the chunks before. -/
def load0 (x : S512x2048.Idx) : EReal := View.canon [zeroPiece] ((rows 0).idx x)

/-- The second chunk's load. -/
def load1 (A : S1536x1024.Idx → EReal) (B : S2048x1024.Idx → EReal) (x : S512x2048.Idx) : EReal :=
  View.canon [accPiece A B 0 load0, zeroPiece] ((rows 1).idx x)

/-- The third chunk's load. -/
def load2 (A : S1536x1024.Idx → EReal) (B : S2048x1024.Idx → EReal) (x : S512x2048.Idx) : EReal :=
  View.canon [accPiece A B 1 (load1 A B), accPiece A B 0 load0, zeroPiece] ((rows 2).idx x)

/-- The first point's three chunks over the zero fill hold the point's product. -/
theorem canon_first (A : S1536x1024.Idx → EReal) (B : S2048x1024.Idx → EReal) (L : List (View.Piece (Elt Ideal) S1536x2048 .f32))
    (hL : L = [accPiece A B 2 (load2 A B), accPiece A B 1 (load1 A B), accPiece A B 0 load0, zeroPiece]) :
    View.canon L = fun y => 0 + part A B y := by
  have e : ∀ n : Fin 3, ∀ x : S512x2048.Idx, ((rows n).idx x (0 : Fin 2)).val = 512 * n.val + 1 * (x 0).val := fun n x => rfl
  have e1 : (1 : Fin 3).val = 1 := rfl
  have e2 : (2 : Fin 3).val = 2 := rfl
  refine canon_acc (fun _ => 0) A B (fun n => match n with | 0 => load0 | 1 => load1 A B | 2 => load2 A B) [zeroPiece] L (fun n x => ?_) hL
  have h1 := e 1 x
  have h2 := e 2 x
  match n with
  | 0 => exact canon_zero _
  | 1 =>
    refine (canon_rows_of_lt A B 0 load0 _ ((rows 1).idx x) (Or.inr ?_)).trans (canon_zero _)
    show 512 * 0 + 512 ≤ _; omega
  | 2 =>
    refine (canon_rows_of_lt A B 1 (load1 A B) _ ((rows 2).idx x) (Or.inr ?_)).trans
      ((canon_rows_of_lt A B 0 load0 _ ((rows 2).idx x) (Or.inr ?_)).trans (canon_zero _))
    · show 512 * 1 + 512 ≤ _; omega
    · show 512 * 0 + 512 ≤ _; omega

end Cert.KernelIdeal.Value
-- ==== Proof.Scale.lean ====
module

public import Idealize.ShloMosaic.Lib.Pipeline.ValueKit

@[expose] public section

noncomputable section

namespace Cert.Scale

open Idealize.ShloMosaic

/-- The scale of an exponent byte: two to the byte less 127; the largest byte is infinity. -/
def scale (e : BitVec 8) : EReal := if e = 255#8 then ⊤ else ((2 : ℝ) ^ ((e.toNat : ℤ) - 127) : ℝ)

/-- The sixteen bits the kernel makes of an exponent byte. -/
def bits (e : BitVec 8) : BitVec 16 :=
  (Scalar.select (Scalar.cmpi .eq (e.setWidth 32) 0#32) 64#32 (e.setWidth 32 <<< 7)).setWidth 16

/-- Read as a sixteen-bit float they are the scale. -/
theorem ofBits_bits (e : BitVec 8) : Ideal.ofBits .bf16 (bits e) = scale e := by
  have hx : ∀ e : BitVec 8, ((bits e).extractLsb' 7 8).toNat = e.toNat ∧ ((bits e).extractLsb' 0 7).toNat = (if e = 0#8 then 64 else 0) ∧ (bits e).extractLsb' 15 1 = 0#1 := by decide +kernel
  obtain ⟨h1, h2, h3⟩ := hx e
  simp only [Ideal.ofBits, Ideal.ieee, scale]
  simp only [show (8:ℕ)+7 = 15 from rfl, h1, h2, h3]
  by_cases h255 : e = 255#8
  · subst h255; simp
  · have : e.toNat ≠ 255 := fun h => h255 (by apply BitVec.eq_of_toNat_eq; simpa using h)
    rw [if_neg (by simpa using this), if_neg h255]
    by_cases h0 : e = 0#8
    · subst h0
      simp [-EReal.coe_mul]; norm_num
    · have h0' : e.toNat ≠ 0 := fun h => h0 (by apply BitVec.eq_of_toNat_eq; simpa using h)
      rw [if_neg h0', if_neg h0]
      congr 1
      rw [show ((e.toNat : ℤ) - 127) = ((e.toNat : ℤ) - (2^(8-1) - 1) - (7:ℕ)) + 7 by norm_num, zpow_add₀ (by norm_num)]
      norm_num
      ring

/-- The reference's decoding of an exponent byte is the scale. -/
theorem exp2_decode (e : BitVec 8) :
    Scalar.select (Scalar.cmpi .eq (e.setWidth 32) 255#32) (Ideal.ofBits .f32 0x7F800000#32)
      (Ideal.exp2 (((e.setWidth 32 - 127#32).toInt : ℝ) : EReal)) = scale e := by
  have hx : ∀ e : BitVec 8, (e.setWidth 32 - 127#32).toInt = (e.toNat : ℤ) - 127 ∧ Scalar.cmpi .eq (e.setWidth 32) 255#32 = if e = 255#8 then 1#1 else 0#1 := by decide +kernel
  rw [(hx e).1, (hx e).2, Ideal.exp2_coe, scale]
  by_cases h : e = 255#8
  · rw [if_pos h, if_pos h]
    show Ideal.ofBits .f32 0x7F800000#32 = ⊤
    simp [Ideal.ofBits, Ideal.ieee]
  · rw [if_neg h, if_neg h]
    show ((Real.rpow 2 _ : ℝ) : EReal) = _
    congr 1
    exact Real.rpow_intCast 2 _

/-- The result at row `r` and column `o`: the sum over the 8192 lanes of gradient times its scale, times weight times its scale,
    a scale shared by 32 lanes. -/
def dgrad (D : (⟨2, ![1536, 8192]⟩ : Shape).Idx → EReal) (S : (⟨2, ![1536, 256]⟩ : Shape).Idx → BitVec 8)
    (W : (⟨2, ![2048, 8192]⟩ : Shape).Idx → EReal) (T : (⟨2, ![2048, 256]⟩ : Shape).Idx → BitVec 8) (y : (⟨2, ![1536, 2048]⟩ : Shape).Idx) : EReal :=
  ∑ l : Fin 8192, (D (ix2 (y 0) l) * scale (S (ix2 (y 0) ⟨l.val / 32, by omega⟩)))
    * (W (ix2 (y 1) l) * scale (T (ix2 (y 1) ⟨l.val / 32, by omega⟩)))

/-- The result with its leading axis split in three, from the gradient and its scales with their two leading axes apart. -/
def result (D : (⟨3, ![3, 512, 8192]⟩ : Shape).Idx → EReal) (S : (⟨3, ![3, 512, 256]⟩ : Shape).Idx → BitVec 8)
    (W : (⟨2, ![2048, 8192]⟩ : Shape).Idx → EReal) (T : (⟨2, ![2048, 256]⟩ : Shape).Idx → BitVec 8) :
    (⟨3, ![3, 512, 2048]⟩ : Shape).Idx → EReal :=
  shapeCast ⟨3, ![3, 512, 2048]⟩ (dgrad (shapeCast ⟨2, ![1536, 8192]⟩ D (by decide +kernel)) (shapeCast ⟨2, ![1536, 256]⟩ S (by decide +kernel)) W T)
    (by decide +kernel)

end Cert.Scale
-- ==== Proof.KernelIdeal.Pack.lean ====
module

public import proofs.«01_k».proof.Proof.KernelIdeal.Unit
public import proofs.«01_k».proof.Proof.Scale

@[expose] public section

set_option maxRecDepth 16384

noncomputable section

namespace Cert.KernelIdeal.Value

open Cert.KernelIdeal Cert.KernelIdeal.Gen Idealize.ShloMosaic

/-- The word that packs the scales of rows `2 * y 1` (low half) and `2 * y 1 + 1` (high half), lane `128 * y 0 + y 2`. -/
def word {a b : ℕ} (hab : a = 2 * b) (S : (⟨2, ![a, 256]⟩ : Shape).Idx → BitVec 8) (y : (⟨3, ![2, b, 128]⟩ : Shape).Idx) : BitVec 32 :=
  have h0 : (y 0).val < 2 := (y 0).isLt
  have h1 : (y 1).val < b := (y 1).isLt
  have h2 : (y 2).val < 128 := (y 2).isLt
  Scale.bits (S (ix2 ⟨2 * (y 1).val + 1, by omega⟩ ⟨128 * (y 0).val + (y 2).val, by omega⟩))
    ++ Scale.bits (S (ix2 ⟨2 * (y 1).val, by omega⟩ ⟨128 * (y 0).val + (y 2).val, by omega⟩))

/-- Row `r`'s half of its word is its scale. -/
theorem half_word {a b : ℕ} (hab : a = 2 * b) (S : (⟨2, ![a, 256]⟩ : Shape).Idx → BitVec 8) (r : Fin a) (h : Fin 2) (l : Fin 128) :
    half (word hab S (ix3 h ⟨r.val / 2, by omega⟩ l)) r.val = Scale.scale (S (ix2 r ⟨128 * h.val + l.val, by omega⟩)) := by
  have lo : ∀ x y : BitVec 16, (x ++ y).extractLsb' 0 16 = y := fun x y => BitVec.extractLsb'_append_eq_right
  have hi : ∀ x y : BitVec 16, (x ++ y).extractLsb' 16 16 = x := fun x y => BitVec.extractLsb'_append_eq_left
  unfold half
  rw [← Scale.ofBits_bits]
  refine congrArg (Ideal.ofBits .bf16) ?_
  rcases Nat.mod_two_eq_zero_or_one r.val with e | e <;> rw [e]
  · refine (lo _ _).trans (congrArg (fun i => Scale.bits (S i)) (congrArg₂ ix2 (Fin.ext ?_) rfl))
    show 2 * (r.val / 2) = r.val; omega
  · refine (hi _ _).trans (congrArg (fun i => Scale.bits (S i)) (congrArg₂ ix2 (Fin.ext ?_) rfl))
    show 2 * (r.val / 2) + 1 = r.val; omega

/-- The kernel's bits of an exponent byte, as its vector operations spell them. -/
theorem bits_eq (e : BitVec 8) : BitVec.setWidth 16 (Scalar.select (IntOp.cmpi .eq (BitVec.setWidth 32 e) 0#32) 64#32
    (IntOp.shli .vector (BitVec.setWidth 32 e) 7#32)) = Scale.bits e := by
  unfold IntOp.shli
  rw [if_pos (by decide)]
  rfl

/-- The word from the two scales' places. -/
theorem word_eq {a b : ℕ} (hab : a = 2 * b) (S : (⟨2, ![a, 256]⟩ : Shape).Idx → BitVec 8) (y : (⟨3, ![2, b, 128]⟩ : Shape).Idx)
    (r1 r0 : Fin a) (l : Fin 256) (h1 : r1.val = 2 * (y 1).val + 1) (h0 : r0.val = 2 * (y 1).val) (hl : l.val = 128 * (y 0).val + (y 2).val) :
    Scale.bits (S (ix2 r1 l)) ++ Scale.bits (S (ix2 r0 l)) = word hab S y :=
  congrArg₂ (fun i j => Scale.bits (S i) ++ Scale.bits (S j)) (congrArg₂ ix2 (Fin.ext h1) (Fin.ext hl)) (congrArg₂ ix2 (Fin.ext h0) (Fin.ext hl))

/-- Two rows of sixteen-bit values packed into a word, the gradient's shape. -/
theorem pack_Dy (x : IVec S1536x128 16) (a : Fin 768) (l : Fin 128) :
    bitcast S768x128 32 x bitcasts_S1536x128_w16_S768x128_w32 (ix2 a l)
      = x (ix2 ⟨2 * a.val + 1, by omega⟩ l) ++ x (ix2 ⟨2 * a.val, by omega⟩ l) := by
  rw [bitcast_16_32]
  refine congrArg₂ (fun i j => x i ++ x j) ?_ ?_ <;> (funext d; match d with | 0 => rfl | 1 => rfl)

/-- The weight's shape. -/
theorem pack_W (x : IVec S2048x128 16) (a : Fin 1024) (l : Fin 128) :
    bitcast S1024x128 32 x bitcasts_S2048x128_w16_S1024x128_w32 (ix2 a l)
      = x (ix2 ⟨2 * a.val + 1, by omega⟩ l) ++ x (ix2 ⟨2 * a.val, by omega⟩ l) := by
  rw [bitcast_16_32]
  refine congrArg₂ (fun i j => x i ++ x j) ?_ ?_ <;> (funext d; match d with | 0 => rfl | 1 => rfl)

/-- The gradient's packed words, as the kernel stores them. -/
def wordsDy (S : Vec Ideal S1536x256 .i8) : Vec Ideal S2x768x128 .i32 :=
  View.canon (Val := Elt Ideal) (e := .i32)
    [⟨Rect.unit ![1, 0, 0] ![1, 768, 128] inb_S2x768x128_S1x768x128_1_0_0,
        k0_pay8 (k0_pay6 (F := Ideal) (View.ld S (Rect.unit ![0, 128] ![1536, 128] inb_S1536x256_S1536x128_0_128))) k0_pay7⟩,
      ⟨Rect.unit ![0, 0, 0] ![1, 768, 128] inb_S2x768x128_S1x768x128_0_0_0,
        k0_pay4 (F := Ideal) (View.ld S (Rect.unit ![0, 0] ![1536, 128] inb_S1536x256_S1536x128_0_0))⟩]

/-- The weight's packed words, as the kernel stores them. -/
def wordsW (S : Vec Ideal S2048x256 .i8) : Vec Ideal S2x1024x128 .i32 :=
  View.canon (Val := Elt Ideal) (e := .i32)
    [⟨Rect.unit ![1, 0, 0] ![1, 1024, 128] inb_S2x1024x128_S1x1024x128_1_0_0,
        k0_pay9 (F := Ideal) (View.ld S (Rect.unit ![0, 128] ![2048, 128] inb_S2048x256_S2048x128_0_128))⟩,
      ⟨Rect.unit ![0, 0, 0] ![1, 1024, 128] inb_S2x1024x128_S1x1024x128_0_0_0,
        k0_pay5 (F := Ideal) (View.ld S (Rect.unit ![0, 0] ![2048, 128] inb_S2048x256_S2048x128_0_0))⟩]

/-- The gradient's words are its packed scales. -/
theorem wordsDy_eq (S : Vec Ideal S1536x256 .i8) : wordsDy S = word (a := 1536) (b := 768) rfl S := by
  refine funext fun y => View.canon_apply_of_pieces (Val := Elt Ideal) (S := S2x768x128) (e := .i32) (word (a := 1536) (b := 768) rfl S) _ ?_ y
    (View.cover_of_tiledL (s := S2x768x128) _ S1x768x128.size (by sl_kernel_rfl) y)
  intro p hp x
  simp only [List.mem_cons, List.not_mem_nil, or_false] at hp
  rcases hp with rfl | rfl
  · pointwise [k0_pay8, k0_pay6, k0_pay7, pack_Dy]
    simp only [bits_eq]
    refine word_eq (a := 1536) (b := 768) rfl S _ _ _ _ ?_ ?_ ?_
    · show 2 * (x 1).val + 1 = 2 * (0 + 1 * (x 1).val) + 1; omega
    · show 2 * (x 1).val = 2 * (0 + 1 * (x 1).val); omega
    · show 128 + (x 2).val = 128 * (1 + 1 * (x 0).val) + (0 + 1 * (x 2).val)
      have : (x 0).val < 1 := (x 0).isLt
      omega
  · pointwise [k0_pay4, pack_Dy]
    simp only [bits_eq]
    refine word_eq (a := 1536) (b := 768) rfl S _ _ _ _ ?_ ?_ ?_
    · show 2 * (x 1).val + 1 = 2 * (0 + 1 * (x 1).val) + 1; omega
    · show 2 * (x 1).val = 2 * (0 + 1 * (x 1).val); omega
    · show (x 2).val = 128 * (0 + 1 * (x 0).val) + (0 + 1 * (x 2).val)
      have : (x 0).val < 1 := (x 0).isLt
      omega

/-- The weight's words are its packed scales. -/
theorem wordsW_eq (S : Vec Ideal S2048x256 .i8) : wordsW S = word (a := 2048) (b := 1024) rfl S := by
  refine funext fun y => View.canon_apply_of_pieces (Val := Elt Ideal) (S := S2x1024x128) (e := .i32) (word (a := 2048) (b := 1024) rfl S) _ ?_ y
    (View.cover_of_tiledL (s := S2x1024x128) _ S1x1024x128.size (by sl_kernel_rfl) y)
  intro p hp x
  simp only [List.mem_cons, List.not_mem_nil, or_false] at hp
  rcases hp with rfl | rfl
  · pointwise [k0_pay9, pack_W]
    simp only [bits_eq]
    refine word_eq (a := 2048) (b := 1024) rfl S _ _ _ _ ?_ ?_ ?_
    · show 2 * (x 1).val + 1 = 2 * (0 + 1 * (x 1).val) + 1; omega
    · show 2 * (x 1).val = 2 * (0 + 1 * (x 1).val); omega
    · show 128 + (x 2).val = 128 * (1 + 1 * (x 0).val) + (0 + 1 * (x 2).val)
      have : (x 0).val < 1 := (x 0).isLt
      omega
  · pointwise [k0_pay5, pack_W]
    simp only [bits_eq]
    refine word_eq (a := 2048) (b := 1024) rfl S _ _ _ _ ?_ ?_ ?_
    · show 2 * (x 1).val + 1 = 2 * (0 + 1 * (x 1).val) + 1; omega
    · show 2 * (x 1).val = 2 * (0 + 1 * (x 1).val); omega
    · show (x 2).val = 128 * (0 + 1 * (x 0).val) + (0 + 1 * (x 2).val)
      have : (x 0).val < 1 := (x 0).isLt
      omega

end Cert.KernelIdeal.Value
-- ==== Proof.KernelIdeal.Runs.lean ====
/- Begun from the generator's module of the same name and kept by hand: what the runs of `proofs.«01_k».proof.KernelIdeal`'s
   frame certificate share — the frame kit (`Gen.hmain`, `Gen.V`, `Gen.iblk`, `Gen.frame_of`) and everything the runs
   are stated over (the body's branch conditions in closed form over the points; where its windows are idle; the staging and
   scratch memrefs; side conditions assumed, `Gen.Hyps`; a ring's names and canonical forms) —, imported by the
   first case's run (Frame/Run<κ>.lean: each imports the one before it) and, through the last, by the Frame module
   (Frame.lean), which holds the rest of the certificate. -/
module

public import proofs.«01_k».proof.Proof.KernelIdeal.Offs
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      ((h c).1 1).trans (((dats 0 c).arrAt_in 1 rfl _).trans ((hA c 1).trans (V_main_arg2 m c))),
      ((h c).1 3).trans (((dats 0 c).arrAt_in 3 rfl _).trans ((hA c 3).trans (V_main_arg3 m c)))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [cond0_1, k0_cond2, e0]
    word_cmp
   : ∀ t : Fin grid0.N, cond0_1 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- At the points of case A the printed configuration (`Cfg.idle`) calls output 4 idle: the case stores nothing into it. -/
theorem idleAt0_4_A : ∀ t : Fin cfg0.N, cond0_0 (grid0.coords t) → ¬cond0_1 (grid0.coords t) → cfg0.idle 4 (grid0.coords t) = true := by decide +kernel
/-- At the points of case A the pipeline does not write output 4's block back. -/
theorem noFlush0_4_A : ∀ t : Fin cfg0.N, cond0_0 (grid0.coords t) → ¬cond0_1 (grid0.coords t) → (cfg0.win 4).flush t = false := by decide +kernel
/-- At the points of case B the printed configuration (`Cfg.idle`) calls output 4 idle: the case stores nothing into it. -/
theorem idleAt0_4_B : ∀ t : Fin cfg0.N, ¬cond0_0 (grid0.coords t) → ¬cond0_1 (grid0.coords t) → cfg0.idle 4 (grid0.coords t) = true := by decide +kernel
/-- At the points of case B the pipeline does not write output 4's block back. -/
theorem noFlush0_4_B : ∀ t : Fin cfg0.N, ¬cond0_0 (grid0.coords t) → ¬cond0_1 (grid0.coords t) → (cfg0.win 4).flush t = false := by decide +kernel
/-- At the points of case C the printed configuration (`Cfg.idle`) calls output 4 live: the case stores into it. -/
theorem liveAt0_4_C : ∀ t : Fin cfg0.N, ¬cond0_0 (grid0.coords t) → cond0_1 (grid0.coords t) → cfg0.idle 4 (grid0.coords t) = false := by decide +kernel

/-! ## The kernel body on any staging memrefs: a subtype the run finds -/

/-- One staging buffer of output window 4, through which its contents are stated (`View.read_writes_of_cover`: the
    choice does not matter). -/
abbrev VO0_4 : View sig .tc .vmem S1536x2048 .bf16 := (Memref.whole cc0_stg4_0 : Memref sig .tc .vmem S1536x2048 .bf16).view
/-- Each window's current staging memref at point `t`, spelled as the pipeline passes it (`bodyAt0`), and its wholeness. -/
abbrev ms0_0 (t : Fin cfg0.N) : Memref sig .tc .vmem S1536x1024 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1536x256 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x256 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1536x2048 .bf16 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S1536x2048 .f32 := Memref.whole cc0_scratch0
abbrev scM0_1 : Memref sig .tc .vmem S1536x1024 .bf16 := Memref.whole cc0_scratch1
abbrev scM0_2 : Memref sig .tc .vmem S2048x1024 .bf16 := Memref.whole cc0_scratch2
abbrev scM0_3 : Memref sig .tc .vmem S2x768x128 .i32 := Memref.whole cc0_scratch3
abbrev scM0_4 : Memref sig .tc .vmem S2x1024x128 .i32 := Memref.whole cc0_scratch4
/-- The scratch `arg6` the kernel carries between points, as a view: what it holds is stated through it. -/
abbrev VS0_0 : View sig .tc .vmem S1536x2048 .f32 := scM0_0.view
/-- The scratch `arg9` the kernel carries between points, as a view: what it holds is stated through it. -/
abbrev VS0_3 : View sig .tc .vmem S2x768x128 .i32 := scM0_3.view
/-- The scratch `arg10` the kernel carries between points, as a view: what it holds is stated through it. -/
abbrev VS0_4 : View sig .tc .vmem S2x1024x128 .i32 := scM0_4.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Gen

end
-- ==== Proof.KernelIdeal.RunA.lean ====
/- Begun from the generator's module of the same name and kept by hand: the whole-body RUN of `proofs.«01_k».proof.KernelIdeal`'s kernel in
   case A of its frame certificate (`Gen.kernelRun0_A`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. -/
module

public import proofs.«01_k».proof.Proof.KernelIdeal.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4764000 in
/-- What the body's stores leave in each output's staging memref, as pieces (last first) IN CASE A (`scf.if` 0 taken, `scf.if` 1 not taken: points 0), WITH the
    proof that on whole staging memrefs — the inputs' at their contents, the outputs it leaves idle (4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1536x1024 .fp8e4m3) (harg1 : arg1.IsWhole) (arg2 : Memref sig .tc .vmem S2048x1024 .fp8e4m3) (harg2 : arg2.IsWhole) (arg3 : Memref sig .tc .vmem S1536x256 .i8) (harg3 : arg3.IsWhole) (arg4 : Memref sig .tc .vmem S2048x256 .i8) (harg4 : arg4.IsWhole) (arg5 : Memref sig .tc .vmem S1536x2048 .bf16) (harg5 : arg5.IsWhole) (arg6 : Memref sig .tc .vmem S1536x2048 .f32) (harg6 : arg6.IsWhole) (arg7 : Memref sig .tc .vmem S1536x1024 .bf16) (harg7 : arg7.IsWhole) (arg8 : Memref sig .tc .vmem S2048x1024 .bf16) (harg8 : arg8.IsWhole) (arg9 : Memref sig .tc .vmem S2x768x128 .i32) (harg9 : arg9.IsWhole) (arg10 : Memref sig .tc .vmem S2x1024x128 .i32) (harg10 : arg10.IsWhole) (hc0 : cond0_0 i) (hc1 : ¬cond0_1 i)
    (x0 : Vec F S1536x1024 .fp8e4m3) (x1 : Vec F S2048x1024 .fp8e4m3) (x2 : Vec F S1536x256 .i8) (x3 : Vec F S2048x256 .i8) :
    Σ' (L4 : List (View.Piece (Elt F) S1536x2048 .bf16)), Σ' (LS0 : List (View.Piece (Elt F) S1536x2048 .f32)), Σ' (LS3 : List (View.Piece (Elt F) S2x768x128 .i32)), Σ' (LS4 : List (View.Piece (Elt F) S2x1024x128 .i32)), Σ' (LT1 : List (View.Piece (Elt F) S1536x1024 .bf16)), { LT2 : List (View.Piece (Elt F) S2048x1024 .bf16) //
      ∀ (xi4 : Vec F S1536x2048 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LT1) ∗ (∃ f, arg8.view.loc (c : Thread nD τ) ↦[arg8.view.set]{fullShare} arg8.view.writes (Elt F) f LT2) ∗ (∃ f, arg9.view.loc (c : Thread nD τ) ↦[arg9.view.set]{fullShare} arg9.view.writes (Elt F) f LS3) ∗ (∃ f, arg10.view.loc (c : Thread nD τ) ↦[arg10.view.set]{fullShare} arg10.view.writes (Elt F) f LS4)) -∗ K ⟨⟩))
          ⊢ wp frame (wpE (defs₀ (F := F)) Variants.none c none) E (cc0_mxfp8_dgrad i arg1 harg1 arg2 harg2 arg3 harg3 arg4 harg4 arg5 harg5 arg6 harg6 arg7 harg7 arg8 harg8 arg9 harg9 arg10 harg10) K } := by
  refine ⟨[], ?_, ?_, ?_, ?_, ?_, fun xi4 E K => ?run⟩
  case run =>
    simp only [cc0_mxfp8_dgrad_eq_skeleton]; unfold cc0_mxfp8_dgrad_skel
    simp only [k0_part68_eq_skeleton, k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    isplitl [HS1]; · iexists _; iexact HS1
    isplitl [HS2]; · iexists _; iexact HS2
    isplitl [HS3]; · iexists _; iexact HS3
    iexists _; iexact HS4

end Cert.KernelIdeal.Gen

end
-- ==== Proof.KernelIdeal.RunB.lean ====
/- Begun from the generator's module of the same name and kept by hand: the whole-body RUN of `proofs.«01_k».proof.KernelIdeal`'s kernel in
   case B of its frame certificate (`Gen.kernelRun0_B`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. -/
module

public import proofs.«01_k».proof.Proof.KernelIdeal.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4680000 in
/-- What the body's stores leave in each output's staging memref, as pieces (last first) IN CASE B (`scf.if` 0 not taken, `scf.if` 1 not taken: points 1, 2, 3, 4, 5, 6), WITH the
    proof that on whole staging memrefs — the inputs' at their contents, the outputs it leaves idle (4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1536x1024 .fp8e4m3) (harg1 : arg1.IsWhole) (arg2 : Memref sig .tc .vmem S2048x1024 .fp8e4m3) (harg2 : arg2.IsWhole) (arg3 : Memref sig .tc .vmem S1536x256 .i8) (harg3 : arg3.IsWhole) (arg4 : Memref sig .tc .vmem S2048x256 .i8) (harg4 : arg4.IsWhole) (arg5 : Memref sig .tc .vmem S1536x2048 .bf16) (harg5 : arg5.IsWhole) (arg6 : Memref sig .tc .vmem S1536x2048 .f32) (harg6 : arg6.IsWhole) (arg7 : Memref sig .tc .vmem S1536x1024 .bf16) (harg7 : arg7.IsWhole) (arg8 : Memref sig .tc .vmem S2048x1024 .bf16) (harg8 : arg8.IsWhole) (arg9 : Memref sig .tc .vmem S2x768x128 .i32) (harg9 : arg9.IsWhole) (arg10 : Memref sig .tc .vmem S2x1024x128 .i32) (harg10 : arg10.IsWhole) (hc0 : ¬cond0_0 i) (hc1 : ¬cond0_1 i)
    (x0 : Vec F S1536x1024 .fp8e4m3) (x1 : Vec F S2048x1024 .fp8e4m3) (x2 : Vec F S1536x256 .i8) (x3 : Vec F S2048x256 .i8) (xs0 : Vec F S1536x2048 .f32) (xs3 : Vec F S2x768x128 .i32) (xs4 : Vec F S2x1024x128 .i32) :
    Σ' (L4 : List (View.Piece (Elt F) S1536x2048 .bf16)), Σ' (LS0 : List (View.Piece (Elt F) S1536x2048 .f32)), Σ' (LS3 : List (View.Piece (Elt F) S2x768x128 .i32)), Σ' (LS4 : List (View.Piece (Elt F) S2x1024x128 .i32)), Σ' (LT1 : List (View.Piece (Elt F) S1536x1024 .bf16)), { LT2 : List (View.Piece (Elt F) S2048x1024 .bf16) //
      ∀ (xi4 : Vec F S1536x2048 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0 ∗ (∃ d, owns (c : Thread nD τ) arg7 fullShare d) ∗ (∃ d, owns (c : Thread nD τ) arg8 fullShare d) ∗ owns (c : Thread nD τ) arg9 fullShare xs3 ∗ owns (c : Thread nD τ) arg10 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LT1) ∗ (∃ f, arg8.view.loc (c : Thread nD τ) ↦[arg8.view.set]{fullShare} arg8.view.writes (Elt F) f LT2) ∗ owns (c : Thread nD τ) arg9 fullShare xs3 ∗ owns (c : Thread nD τ) arg10 fullShare xs4) -∗ K ⟨⟩))
          ⊢ wp frame (wpE (defs₀ (F := F)) Variants.none c none) E (cc0_mxfp8_dgrad i arg1 harg1 arg2 harg2 arg3 harg3 arg4 harg4 arg5 harg5 arg6 harg6 arg7 harg7 arg8 harg8 arg9 harg9 arg10 harg10) K } := by
  refine ⟨[], ?_, [], [], ?_, ?_, fun xi4 E K => ?run⟩
  case run =>
    simp only [cc0_mxfp8_dgrad_eq_skeleton]; unfold cc0_mxfp8_dgrad_skel
    simp only [k0_part68_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%ds1, %fs1, -, HS1⟩, ⟨%ds2, %fs2, -, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0; obtain rfl := harg9.eq_unread hfs3; obtain rfl := harg10.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    isplitl [HS1]; · iexists _; iexact HS1
    isplitl [HS2]; · iexists _; iexact HS2
    isplitl [HS3]
    · iexists _; isplitr; · ipureintro; exact harg9.read_unread _
      iexact HS3
    iexists _; isplitr; · ipureintro; exact harg10.read_unread _
    iexact HS4

end Cert.KernelIdeal.Gen

end
-- ==== Proof.KernelIdeal.RunC.lean ====
/- Begun from the generator's module of the same name and kept by hand: the whole-body RUN of `proofs.«01_k».proof.KernelIdeal`'s kernel in
   case C of its frame certificate (`Gen.kernelRun0_C`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. -/
module

public import proofs.«01_k».proof.Proof.KernelIdeal.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4692000 in
/-- What the body's stores leave in each output's staging memref, as pieces (last first) IN CASE C (`scf.if` 0 not taken, `scf.if` 1 taken: points 7), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S1536x1024 .fp8e4m3) (harg1 : arg1.IsWhole) (arg2 : Memref sig .tc .vmem S2048x1024 .fp8e4m3) (harg2 : arg2.IsWhole) (arg3 : Memref sig .tc .vmem S1536x256 .i8) (harg3 : arg3.IsWhole) (arg4 : Memref sig .tc .vmem S2048x256 .i8) (harg4 : arg4.IsWhole) (arg5 : Memref sig .tc .vmem S1536x2048 .bf16) (harg5 : arg5.IsWhole) (arg6 : Memref sig .tc .vmem S1536x2048 .f32) (harg6 : arg6.IsWhole) (arg7 : Memref sig .tc .vmem S1536x1024 .bf16) (harg7 : arg7.IsWhole) (arg8 : Memref sig .tc .vmem S2048x1024 .bf16) (harg8 : arg8.IsWhole) (arg9 : Memref sig .tc .vmem S2x768x128 .i32) (harg9 : arg9.IsWhole) (arg10 : Memref sig .tc .vmem S2x1024x128 .i32) (harg10 : arg10.IsWhole) (hc0 : ¬cond0_0 i) (hc1 : cond0_1 i)
    (x0 : Vec F S1536x1024 .fp8e4m3) (x1 : Vec F S2048x1024 .fp8e4m3) (x2 : Vec F S1536x256 .i8) (x3 : Vec F S2048x256 .i8) (xs0 : Vec F S1536x2048 .f32) (xs3 : Vec F S2x768x128 .i32) (xs4 : Vec F S2x1024x128 .i32) :
    Σ' (L4 : List (View.Piece (Elt F) S1536x2048 .bf16)), Σ' (LS0 : List (View.Piece (Elt F) S1536x2048 .f32)), Σ' (LS3 : List (View.Piece (Elt F) S2x768x128 .i32)), Σ' (LS4 : List (View.Piece (Elt F) S2x1024x128 .i32)), Σ' (LT1 : List (View.Piece (Elt F) S1536x1024 .bf16)), { LT2 : List (View.Piece (Elt F) S2048x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ (∃ d, owns (c : Thread nD τ) arg7 fullShare d) ∗ (∃ d, owns (c : Thread nD τ) arg8 fullShare d) ∗ owns (c : Thread nD τ) arg9 fullShare xs3 ∗ owns (c : Thread nD τ) arg10 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LT1) ∗ (∃ f, arg8.view.loc (c : Thread nD τ) ↦[arg8.view.set]{fullShare} arg8.view.writes (Elt F) f LT2) ∗ owns (c : Thread nD τ) arg9 fullShare xs3 ∗ owns (c : Thread nD τ) arg10 fullShare xs4) -∗ K ⟨⟩))
          ⊢ wp frame (wpE (defs₀ (F := F)) Variants.none c none) E (cc0_mxfp8_dgrad i arg1 harg1 arg2 harg2 arg3 harg3 arg4 harg4 arg5 harg5 arg6 harg6 arg7 harg7 arg8 harg8 arg9 harg9 arg10 harg10) K } := by
  refine ⟨?_, ?_, [], [], ?_, ?_, fun E K => ?run⟩
  case run =>
    simp only [cc0_mxfp8_dgrad_eq_skeleton]; unfold cc0_mxfp8_dgrad_skel
    simp only [k0_part68_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%ds1, %fs1, -, HS1⟩, ⟨%ds2, %fs2, -, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg6.eq_unread hfs0; obtain rfl := harg9.eq_unread hfs3; obtain rfl := harg10.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]; · iexists _; iexact HS0
    isplitl [HS1]; · iexists _; iexact HS1
    isplitl [HS2]; · iexists _; iexact HS2
    isplitl [HS3]
    · iexists _; isplitr; · ipureintro; exact harg9.read_unread _
      iexact HS3
    iexists _; isplitr; · ipureintro; exact harg10.read_unread _
    iexact HS4

end Cert.KernelIdeal.Gen

end
-- ==== Proof.KernelIdeal.Frame.lean ====
/- Begun from the generator's module of the same name and kept by hand: the FRAME CERTIFICATE of `proofs.«01_k».proof.KernelIdeal`,
   its last module — what the outputs (and a carried scratch, when the kernel has one) hold per case (covers,
   `Gen.outK_κ_W`) and point by point (`Gen.outsAtK`), the proof data (`Gen.dats`), the body obligation, the run
   (`Gen.run_main`) and `Gen.frame`; the frame kit (`Gen.hmain`, `Gen.V`, `Gen.iblk`, `Gen.frame_of`) and what the
   runs share are in Frame/Runs.lean, each case's whole-body run in Frame/Run<κ>.lean; and, the kernel being of
   CLASS R (whole staging memrefs, literal-rectangle covering stores; SMEM words, the generator, loads of its outputs and
   a scratch accumulator CARRIED between points (stored whole at the grid's first point, its contents after each point stated), `scf.if`s on the coordinates (an output stored under them IDLE elsewhere: its buffer handed back untouched where the pipeline does not write it back) admitted — framerun.py), the whole certificate: the body's triple per case as a subtype the
   run finds (`Gen.kernelRunK_κ`, by `sl_exec`: the pieces each output ends with are its witness), the conditions in closed
   form (`Gen.hcondK_J`), what the outputs hold point by point (`Gen.outsAtK`), the proof data, the obligation, the run
   (`Gen.run_main`, `θ_run_frame_around_track`) and `Gen.frame` — the frame claim at any `F`: Proof.lean is
   `theorem Cert.Proof.claim : Cert.Claim := ⟨Gen.facts, fun m ρ _ => Gen.frame m ρ⟩`.
   CLASS R (3 cases of its conditionals, 5 scratch operands, scratch `arg10`, `arg6`, `arg9` carried between points, scratch `arg7`, `arg8` posted (their store pieces named, `LT·`, in the run of each case that posts them), output window 4 idle at some points (stored only under `pl.when`; at the other points left untouched and not written back)): the certificate is whole here — not class A: the kernel takes operands the pipeline does not stage (scratch, semaphores, tables, arrays left in HBM). -/
module

public import proofs.«01_k».proof.Proof.KernelIdeal.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 4 (the window is idle at its points and not written back there):
    no pieces — a placeholder (junk read back) that nothing consults, since at these points the window is neither
    written back nor read at the next point (Lib/Pipeline.lean "Idle points"). -/
def out0_A_4 (c : Dev nD) (i : grid0.Coords) (arg1 : Memref sig .tc .vmem S1536x1024 .fp8e4m3) (harg1 : arg1.IsWhole) (arg2 : Memref sig .tc .vmem S2048x1024 .fp8e4m3) (harg2 : arg2.IsWhole) (arg3 : Memref sig .tc .vmem S1536x256 .i8) (harg3 : arg3.IsWhole) (arg4 : Memref sig .tc .vmem S2048x256 .i8) (harg4 : arg4.IsWhole) (arg5 : Memref sig .tc .vmem S1536x2048 .bf16) (harg5 : arg5.IsWhole) (arg6 : Memref sig .tc .vmem S1536x2048 .f32) (harg6 : arg6.IsWhole) (arg7 : Memref sig .tc .vmem S1536x1024 .bf16) (harg7 : arg7.IsWhole) (arg8 : Memref sig .tc .vmem S2048x1024 .bf16) (harg8 : arg8.IsWhole) (arg9 : Memref sig .tc .vmem S2x768x128 .i32) (harg9 : arg9.IsWhole) (arg10 : Memref sig .tc .vmem S2x1024x128 .i32) (harg10 : arg10.IsWhole) (hc0 : cond0_0 i) (hc1 : ¬cond0_1 i)
    (x0 : Vec F S1536x1024 .fp8e4m3) (x1 : Vec F S2048x1024 .fp8e4m3) (x2 : Vec F S1536x256 .i8) (x3 : Vec F S2048x256 .i8) : Vec F S1536x2048 .bf16 :=
  VO0_4.read (Elt F) (VO0_4.writes (Elt F) VO0_4.junk (kernelRun0_A c i arg1 harg1 arg2 harg2 arg3 harg3 arg4 harg4 arg5 harg5 arg6 harg6 arg7 harg7 arg8 harg8 arg9 harg9 arg10 harg10 hc0 hc1 x0 x1 x2 x3).1)

/-- Case A's pieces for scratch `arg6`, which the kernel carries between points, cover it: one of them a store of the WHOLE buffer (Lib/Ring.lean `sl_whole_mem`). -/
theorem scover0_A_0 (c : Dev nD) (i : grid0.Coords) (arg1 : Memref sig .tc .vmem S1536x1024 .fp8e4m3) (harg1 : arg1.IsWhole) (arg2 : Memref sig .tc .vmem S2048x1024 .fp8e4m3) (harg2 : arg2.IsWhole) (arg3 : Memref sig .tc .vmem S1536x256 .i8) (harg3 : arg3.IsWhole) (arg4 : Memref sig .tc .vmem S2048x256 .i8) (harg4 : arg4.IsWhole) (arg5 : Memref sig .tc .vmem S1536x2048 .bf16) (harg5 : arg5.IsWhole) (arg6 : Memref sig .tc .vmem S1536x2048 .f32) (harg6 : arg6.IsWhole) (arg7 : Memref sig .tc .vmem S1536x1024 .bf16) (harg7 : arg7.IsWhole) (arg8 : Memref sig .tc .vmem S2048x1024 .bf16) (harg8 : arg8.IsWhole) (arg9 : Memref sig .tc .vmem S2x768x128 .i32) (harg9 : arg9.IsWhole) (arg10 : Memref sig .tc .vmem S2x1024x128 .i32) (harg10 : arg10.IsWhole) (hc0 : cond0_0 i) (hc1 : ¬cond0_1 i)
    (x0 : Vec F S1536x1024 .fp8e4m3) (x1 : Vec F S2048x1024 .fp8e4m3) (x2 : Vec F S1536x256 .i8) (x3 : Vec F S2048x256 .i8) (y : S1536x2048.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3).2.1, y ∈ pc.1.set :=
  View.cover_of_wholeMem (kernelRun0_A c i arg1 harg1 arg2 harg2 arg3 harg3 arg4 harg4 arg5 harg5 arg6 harg6 arg7 harg7 arg8 harg8 arg9 harg9 arg10 harg10 hc0 hc1 x0 x1 x2 x3).2.1 (by sl_whole_mem) y

/-- What case A leaves in scratch `arg6`: its pieces read back over junk. -/
def sout0_A_0 (c : Dev nD) (i : grid0.Coords) (arg1 : Memref sig .tc .vmem S1536x1024 .fp8e4m3) (harg1 : arg1.IsWhole) (arg2 : Memref sig .tc .vmem S2048x1024 .fp8e4m3) (harg2 : arg2.IsWhole) (arg3 : Memref sig .tc .vmem S1536x256 .i8) (harg3 : arg3.IsWhole) (arg4 : Memref sig .tc .vmem S2048x256 .i8) (harg4 : arg4.IsWhole) (arg5 : Memref sig .tc .vmem S1536x2048 .bf16) (harg5 : arg5.IsWhole) (arg6 : Memref sig .tc .vmem S1536x2048 .f32) (harg6 : arg6.IsWhole) (arg7 : Memref sig .tc .vmem S1536x1024 .bf16) (harg7 : arg7.IsWhole) (arg8 : Memref sig .tc .vmem S2048x1024 .bf16) (harg8 : arg8.IsWhole) (arg9 : Memref sig .tc .vmem S2x768x128 .i32) (harg9 : arg9.IsWhole) (arg10 : Memref sig .tc .vmem S2x1024x128 .i32) (harg10 : arg10.IsWhole) (hc0 : cond0_0 i) (hc1 : ¬cond0_1 i)
    (x0 : Vec F S1536x1024 .fp8e4m3) (x1 : Vec F S2048x1024 .fp8e4m3) (x2 : Vec F S1536x256 .i8) (x3 : Vec F S2048x256 .i8) : Vec F S1536x2048 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 hc0 hc1 x0 x1 x2 x3).2.1)

/-- Case A's pieces for scratch `arg9`, which the kernel carries between points, cover it: 2 pieces of `S1x768x128` tiling it (Lib/Ring.lean `Piece.tiledL`). -/
theorem scover0_A_3 (c : Dev nD) (i : grid0.Coords) (arg1 : Memref sig .tc .vmem S1536x1024 .fp8e4m3) (harg1 : arg1.IsWhole) (arg2 : Memref sig .tc .vmem S2048x1024 .fp8e4m3) (harg2 : arg2.IsWhole) (arg3 : Memref sig .tc .vmem S1536x256 .i8) (harg3 : arg3.IsWhole) (arg4 : Memref sig .tc .vmem S2048x256 .i8) (harg4 : arg4.IsWhole) (arg5 : Memref sig .tc .vmem S1536x2048 .bf16) (harg5 : arg5.IsWhole) (arg6 : Memref sig .tc .vmem S1536x2048 .f32) (harg6 : arg6.IsWhole) (arg7 : Memref sig .tc .vmem S1536x1024 .bf16) (harg7 : arg7.IsWhole) (arg8 : Memref sig .tc .vmem S2048x1024 .bf16) (harg8 : arg8.IsWhole) (arg9 : Memref sig .tc .vmem S2x768x128 .i32) (harg9 : arg9.IsWhole) (arg10 : Memref sig .tc .vmem S2x1024x128 .i32) (harg10 : arg10.IsWhole) (hc0 : cond0_0 i) (hc1 : ¬cond0_1 i)
    (x0 : Vec F S1536x1024 .fp8e4m3) (x1 : Vec F S2048x1024 .fp8e4m3) (x2 : Vec F S1536x256 .i8) (x3 : Vec F S2048x256 .i8) (y : S2x768x128.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3).2.2.1 S1x768x128.size (by sl_kernel_rfl) y

/-- What case A leaves in scratch `arg9`: its pieces read back over junk. -/
def sout0_A_3 (c : Dev nD) (i : grid0.Coords) (arg1 : Memref sig .tc .vmem S1536x1024 .fp8e4m3) (harg1 : arg1.IsWhole) (arg2 : Memref sig .tc .vmem S2048x1024 .fp8e4m3) (harg2 : arg2.IsWhole) (arg3 : Memref sig .tc .vmem S1536x256 .i8) (harg3 : arg3.IsWhole) (arg4 : Memref sig .tc .vmem S2048x256 .i8) (harg4 : arg4.IsWhole) (arg5 : Memref sig .tc .vmem S1536x2048 .bf16) (harg5 : arg5.IsWhole) (arg6 : Memref sig .tc .vmem S1536x2048 .f32) (harg6 : arg6.IsWhole) (arg7 : Memref sig .tc .vmem S1536x1024 .bf16) (harg7 : arg7.IsWhole) (arg8 : Memref sig .tc .vmem S2048x1024 .bf16) (harg8 : arg8.IsWhole) (arg9 : Memref sig .tc .vmem S2x768x128 .i32) (harg9 : arg9.IsWhole) (arg10 : Memref sig .tc .vmem S2x1024x128 .i32) (harg10 : arg10.IsWhole) (hc0 : cond0_0 i) (hc1 : ¬cond0_1 i)
    (x0 : Vec F S1536x1024 .fp8e4m3) (x1 : Vec F S2048x1024 .fp8e4m3) (x2 : Vec F S1536x256 .i8) (x3 : Vec F S2048x256 .i8) : Vec F S2x768x128 .i32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 hc0 hc1 x0 x1 x2 x3).2.2.1)

/-- Case A's pieces for scratch `arg10`, which the kernel carries between points, cover it: 2 pieces of `S1x1024x128` tiling it (Lib/Ring.lean `Piece.tiledL`). -/
theorem scover0_A_4 (c : Dev nD) (i : grid0.Coords) (arg1 : Memref sig .tc .vmem S1536x1024 .fp8e4m3) (harg1 : arg1.IsWhole) (arg2 : Memref sig .tc .vmem S2048x1024 .fp8e4m3) (harg2 : arg2.IsWhole) (arg3 : Memref sig .tc .vmem S1536x256 .i8) (harg3 : arg3.IsWhole) (arg4 : Memref sig .tc .vmem S2048x256 .i8) (harg4 : arg4.IsWhole) (arg5 : Memref sig .tc .vmem S1536x2048 .bf16) (harg5 : arg5.IsWhole) (arg6 : Memref sig .tc .vmem S1536x2048 .f32) (harg6 : arg6.IsWhole) (arg7 : Memref sig .tc .vmem S1536x1024 .bf16) (harg7 : arg7.IsWhole) (arg8 : Memref sig .tc .vmem S2048x1024 .bf16) (harg8 : arg8.IsWhole) (arg9 : Memref sig .tc .vmem S2x768x128 .i32) (harg9 : arg9.IsWhole) (arg10 : Memref sig .tc .vmem S2x1024x128 .i32) (harg10 : arg10.IsWhole) (hc0 : cond0_0 i) (hc1 : ¬cond0_1 i)
    (x0 : Vec F S1536x1024 .fp8e4m3) (x1 : Vec F S2048x1024 .fp8e4m3) (x2 : Vec F S1536x256 .i8) (x3 : Vec F S2048x256 .i8) (y : S2x1024x128.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3).2.2.2.1 S1x1024x128.size (by sl_kernel_rfl) y

/-- What case A leaves in scratch `arg10`: its pieces read back over junk. -/
def sout0_A_4 (c : Dev nD) (i : grid0.Coords) (arg1 : Memref sig .tc .vmem S1536x1024 .fp8e4m3) (harg1 : arg1.IsWhole) (arg2 : Memref sig .tc .vmem S2048x1024 .fp8e4m3) (harg2 : arg2.IsWhole) (arg3 : Memref sig .tc .vmem S1536x256 .i8) (harg3 : arg3.IsWhole) (arg4 : Memref sig .tc .vmem S2048x256 .i8) (harg4 : arg4.IsWhole) (arg5 : Memref sig .tc .vmem S1536x2048 .bf16) (harg5 : arg5.IsWhole) (arg6 : Memref sig .tc .vmem S1536x2048 .f32) (harg6 : arg6.IsWhole) (arg7 : Memref sig .tc .vmem S1536x1024 .bf16) (harg7 : arg7.IsWhole) (arg8 : Memref sig .tc .vmem S2048x1024 .bf16) (harg8 : arg8.IsWhole) (arg9 : Memref sig .tc .vmem S2x768x128 .i32) (harg9 : arg9.IsWhole) (arg10 : Memref sig .tc .vmem S2x1024x128 .i32) (harg10 : arg10.IsWhole) (hc0 : cond0_0 i) (hc1 : ¬cond0_1 i)
    (x0 : Vec F S1536x1024 .fp8e4m3) (x1 : Vec F S2048x1024 .fp8e4m3) (x2 : Vec F S1536x256 .i8) (x3 : Vec F S2048x256 .i8) : Vec F S2x1024x128 .i32 :=
  VS0_4.read (Elt F) (VS0_4.writes (Elt F) VS0_4.junk (kernelRun0_A c i arg1 harg1 arg2 harg2 arg3 harg3 arg4 harg4 arg5 harg5 arg6 harg6 arg7 harg7 arg8 harg8 arg9 harg9 arg10 harg10 hc0 hc1 x0 x1 x2 x3).2.2.2.1)

/-- Case B stores nothing into output 4 (the window is idle at its points and not written back there):
    no pieces — a placeholder (junk read back) that nothing consults, since at these points the window is neither
    written back nor read at the next point (Lib/Pipeline.lean "Idle points"). -/
def out0_B_4 (c : Dev nD) (i : grid0.Coords) (arg1 : Memref sig .tc .vmem S1536x1024 .fp8e4m3) (harg1 : arg1.IsWhole) (arg2 : Memref sig .tc .vmem S2048x1024 .fp8e4m3) (harg2 : arg2.IsWhole) (arg3 : Memref sig .tc .vmem S1536x256 .i8) (harg3 : arg3.IsWhole) (arg4 : Memref sig .tc .vmem S2048x256 .i8) (harg4 : arg4.IsWhole) (arg5 : Memref sig .tc .vmem S1536x2048 .bf16) (harg5 : arg5.IsWhole) (arg6 : Memref sig .tc .vmem S1536x2048 .f32) (harg6 : arg6.IsWhole) (arg7 : Memref sig .tc .vmem S1536x1024 .bf16) (harg7 : arg7.IsWhole) (arg8 : Memref sig .tc .vmem S2048x1024 .bf16) (harg8 : arg8.IsWhole) (arg9 : Memref sig .tc .vmem S2x768x128 .i32) (harg9 : arg9.IsWhole) (arg10 : Memref sig .tc .vmem S2x1024x128 .i32) (harg10 : arg10.IsWhole) (hc0 : ¬cond0_0 i) (hc1 : ¬cond0_1 i)
    (x0 : Vec F S1536x1024 .fp8e4m3) (x1 : Vec F S2048x1024 .fp8e4m3) (x2 : Vec F S1536x256 .i8) (x3 : Vec F S2048x256 .i8) (xs0 : Vec F S1536x2048 .f32) (xs3 : Vec F S2x768x128 .i32) (xs4 : Vec F S2x1024x128 .i32) : Vec F S1536x2048 .bf16 :=
  VO0_4.read (Elt F) (VO0_4.writes (Elt F) VO0_4.junk (kernelRun0_B c i arg1 harg1 arg2 harg2 arg3 harg3 arg4 harg4 arg5 harg5 arg6 harg6 arg7 harg7 arg8 harg8 arg9 harg9 arg10 harg10 hc0 hc1 x0 x1 x2 x3 xs0 xs3 xs4).1)

/-- Case B's pieces for scratch `arg6`, which the kernel carries between points, cover it: 3 pieces of `S512x2048` tiling it (Lib/Ring.lean `Piece.tiledL`). -/
theorem scover0_B_0 (c : Dev nD) (i : grid0.Coords) (arg1 : Memref sig .tc .vmem S1536x1024 .fp8e4m3) (harg1 : arg1.IsWhole) (arg2 : Memref sig .tc .vmem S2048x1024 .fp8e4m3) (harg2 : arg2.IsWhole) (arg3 : Memref sig .tc .vmem S1536x256 .i8) (harg3 : arg3.IsWhole) (arg4 : Memref sig .tc .vmem S2048x256 .i8) (harg4 : arg4.IsWhole) (arg5 : Memref sig .tc .vmem S1536x2048 .bf16) (harg5 : arg5.IsWhole) (arg6 : Memref sig .tc .vmem S1536x2048 .f32) (harg6 : arg6.IsWhole) (arg7 : Memref sig .tc .vmem S1536x1024 .bf16) (harg7 : arg7.IsWhole) (arg8 : Memref sig .tc .vmem S2048x1024 .bf16) (harg8 : arg8.IsWhole) (arg9 : Memref sig .tc .vmem S2x768x128 .i32) (harg9 : arg9.IsWhole) (arg10 : Memref sig .tc .vmem S2x1024x128 .i32) (harg10 : arg10.IsWhole) (hc0 : ¬cond0_0 i) (hc1 : ¬cond0_1 i)
    (x0 : Vec F S1536x1024 .fp8e4m3) (x1 : Vec F S2048x1024 .fp8e4m3) (x2 : Vec F S1536x256 .i8) (x3 : Vec F S2048x256 .i8) (xs0 : Vec F S1536x2048 .f32) (xs3 : Vec F S2x768x128 .i32) (xs4 : Vec F S2x1024x128 .i32) (y : S1536x2048.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 xs0 xs3 xs4).2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 xs0 xs3 xs4).2.1 S512x2048.size (by sl_kernel_rfl) y

/-- What case B leaves in scratch `arg6`: its pieces read back over junk. -/
def sout0_B_0 (c : Dev nD) (i : grid0.Coords) (arg1 : Memref sig .tc .vmem S1536x1024 .fp8e4m3) (harg1 : arg1.IsWhole) (arg2 : Memref sig .tc .vmem S2048x1024 .fp8e4m3) (harg2 : arg2.IsWhole) (arg3 : Memref sig .tc .vmem S1536x256 .i8) (harg3 : arg3.IsWhole) (arg4 : Memref sig .tc .vmem S2048x256 .i8) (harg4 : arg4.IsWhole) (arg5 : Memref sig .tc .vmem S1536x2048 .bf16) (harg5 : arg5.IsWhole) (arg6 : Memref sig .tc .vmem S1536x2048 .f32) (harg6 : arg6.IsWhole) (arg7 : Memref sig .tc .vmem S1536x1024 .bf16) (harg7 : arg7.IsWhole) (arg8 : Memref sig .tc .vmem S2048x1024 .bf16) (harg8 : arg8.IsWhole) (arg9 : Memref sig .tc .vmem S2x768x128 .i32) (harg9 : arg9.IsWhole) (arg10 : Memref sig .tc .vmem S2x1024x128 .i32) (harg10 : arg10.IsWhole) (hc0 : ¬cond0_0 i) (hc1 : ¬cond0_1 i)
    (x0 : Vec F S1536x1024 .fp8e4m3) (x1 : Vec F S2048x1024 .fp8e4m3) (x2 : Vec F S1536x256 .i8) (x3 : Vec F S2048x256 .i8) (xs0 : Vec F S1536x2048 .f32) (xs3 : Vec F S2x768x128 .i32) (xs4 : Vec F S2x1024x128 .i32) : Vec F S1536x2048 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 hc0 hc1 x0 x1 x2 x3 xs0 xs3 xs4).2.1)

/-- Case B stores nothing into scratch `arg9`: it holds what the point before left. -/
def sout0_B_3 (c : Dev nD) (i : grid0.Coords) (arg1 : Memref sig .tc .vmem S1536x1024 .fp8e4m3) (harg1 : arg1.IsWhole) (arg2 : Memref sig .tc .vmem S2048x1024 .fp8e4m3) (harg2 : arg2.IsWhole) (arg3 : Memref sig .tc .vmem S1536x256 .i8) (harg3 : arg3.IsWhole) (arg4 : Memref sig .tc .vmem S2048x256 .i8) (harg4 : arg4.IsWhole) (arg5 : Memref sig .tc .vmem S1536x2048 .bf16) (harg5 : arg5.IsWhole) (arg6 : Memref sig .tc .vmem S1536x2048 .f32) (harg6 : arg6.IsWhole) (arg7 : Memref sig .tc .vmem S1536x1024 .bf16) (harg7 : arg7.IsWhole) (arg8 : Memref sig .tc .vmem S2048x1024 .bf16) (harg8 : arg8.IsWhole) (arg9 : Memref sig .tc .vmem S2x768x128 .i32) (harg9 : arg9.IsWhole) (arg10 : Memref sig .tc .vmem S2x1024x128 .i32) (harg10 : arg10.IsWhole) (hc0 : ¬cond0_0 i) (hc1 : ¬cond0_1 i)
    (x0 : Vec F S1536x1024 .fp8e4m3) (x1 : Vec F S2048x1024 .fp8e4m3) (x2 : Vec F S1536x256 .i8) (x3 : Vec F S2048x256 .i8) (xs0 : Vec F S1536x2048 .f32) (xs3 : Vec F S2x768x128 .i32) (xs4 : Vec F S2x1024x128 .i32) : Vec F S2x768x128 .i32 := xs3

/-- Case B stores nothing into scratch `arg10`: it holds what the point before left. -/
def sout0_B_4 (c : Dev nD) (i : grid0.Coords) (arg1 : Memref sig .tc .vmem S1536x1024 .fp8e4m3) (harg1 : arg1.IsWhole) (arg2 : Memref sig .tc .vmem S2048x1024 .fp8e4m3) (harg2 : arg2.IsWhole) (arg3 : Memref sig .tc .vmem S1536x256 .i8) (harg3 : arg3.IsWhole) (arg4 : Memref sig .tc .vmem S2048x256 .i8) (harg4 : arg4.IsWhole) (arg5 : Memref sig .tc .vmem S1536x2048 .bf16) (harg5 : arg5.IsWhole) (arg6 : Memref sig .tc .vmem S1536x2048 .f32) (harg6 : arg6.IsWhole) (arg7 : Memref sig .tc .vmem S1536x1024 .bf16) (harg7 : arg7.IsWhole) (arg8 : Memref sig .tc .vmem S2048x1024 .bf16) (harg8 : arg8.IsWhole) (arg9 : Memref sig .tc .vmem S2x768x128 .i32) (harg9 : arg9.IsWhole) (arg10 : Memref sig .tc .vmem S2x1024x128 .i32) (harg10 : arg10.IsWhole) (hc0 : ¬cond0_0 i) (hc1 : ¬cond0_1 i)
    (x0 : Vec F S1536x1024 .fp8e4m3) (x1 : Vec F S2048x1024 .fp8e4m3) (x2 : Vec F S1536x256 .i8) (x3 : Vec F S2048x256 .i8) (xs0 : Vec F S1536x2048 .f32) (xs3 : Vec F S2x768x128 .i32) (xs4 : Vec F S2x1024x128 .i32) : Vec F S2x1024x128 .i32 := xs4

/-- Case C's pieces for output 4 tile its block (1 store of `S1536x2048`, checked by the kernel's evaluation: Lib/Ring.lean `Piece.tiledL`, linear in the pieces, through a loop's `@[irreducible]` trip theorem too), so they cover it. -/
theorem cover0_C_4 (c : Dev nD) (i : grid0.Coords) (arg1 : Memref sig .tc .vmem S1536x1024 .fp8e4m3) (harg1 : arg1.IsWhole) (arg2 : Memref sig .tc .vmem S2048x1024 .fp8e4m3) (harg2 : arg2.IsWhole) (arg3 : Memref sig .tc .vmem S1536x256 .i8) (harg3 : arg3.IsWhole) (arg4 : Memref sig .tc .vmem S2048x256 .i8) (harg4 : arg4.IsWhole) (arg5 : Memref sig .tc .vmem S1536x2048 .bf16) (harg5 : arg5.IsWhole) (arg6 : Memref sig .tc .vmem S1536x2048 .f32) (harg6 : arg6.IsWhole) (arg7 : Memref sig .tc .vmem S1536x1024 .bf16) (harg7 : arg7.IsWhole) (arg8 : Memref sig .tc .vmem S2048x1024 .bf16) (harg8 : arg8.IsWhole) (arg9 : Memref sig .tc .vmem S2x768x128 .i32) (harg9 : arg9.IsWhole) (arg10 : Memref sig .tc .vmem S2x1024x128 .i32) (harg10 : arg10.IsWhole) (hc0 : ¬cond0_0 i) (hc1 : cond0_1 i)
    (x0 : Vec F S1536x1024 .fp8e4m3) (x1 : Vec F S2048x1024 .fp8e4m3) (x2 : Vec F S1536x256 .i8) (x3 : Vec F S2048x256 .i8) (xs0 : Vec F S1536x2048 .f32) (xs3 : Vec F S2x768x128 .i32) (xs4 : Vec F S2x1024x128 .i32) (y : S1536x2048.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 xs0 xs3 xs4).1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 xs0 xs3 xs4).1 S1536x2048.size (by sl_kernel_rfl) y

/-- What case C leaves in output 4's staging buffer: its pieces read back over junk. -/
def out0_C_4 (c : Dev nD) (i : grid0.Coords) (arg1 : Memref sig .tc .vmem S1536x1024 .fp8e4m3) (harg1 : arg1.IsWhole) (arg2 : Memref sig .tc .vmem S2048x1024 .fp8e4m3) (harg2 : arg2.IsWhole) (arg3 : Memref sig .tc .vmem S1536x256 .i8) (harg3 : arg3.IsWhole) (arg4 : Memref sig .tc .vmem S2048x256 .i8) (harg4 : arg4.IsWhole) (arg5 : Memref sig .tc .vmem S1536x2048 .bf16) (harg5 : arg5.IsWhole) (arg6 : Memref sig .tc .vmem S1536x2048 .f32) (harg6 : arg6.IsWhole) (arg7 : Memref sig .tc .vmem S1536x1024 .bf16) (harg7 : arg7.IsWhole) (arg8 : Memref sig .tc .vmem S2048x1024 .bf16) (harg8 : arg8.IsWhole) (arg9 : Memref sig .tc .vmem S2x768x128 .i32) (harg9 : arg9.IsWhole) (arg10 : Memref sig .tc .vmem S2x1024x128 .i32) (harg10 : arg10.IsWhole) (hc0 : ¬cond0_0 i) (hc1 : cond0_1 i)
    (x0 : Vec F S1536x1024 .fp8e4m3) (x1 : Vec F S2048x1024 .fp8e4m3) (x2 : Vec F S1536x256 .i8) (x3 : Vec F S2048x256 .i8) (xs0 : Vec F S1536x2048 .f32) (xs3 : Vec F S2x768x128 .i32) (xs4 : Vec F S2x1024x128 .i32) : Vec F S1536x2048 .bf16 :=
  VO0_4.read (Elt F) (VO0_4.writes (Elt F) VO0_4.junk (kernelRun0_C c i arg1 harg1 arg2 harg2 arg3 harg3 arg4 harg4 arg5 harg5 arg6 harg6 arg7 harg7 arg8 harg8 arg9 harg9 arg10 harg10 hc0 hc1 x0 x1 x2 x3 xs0 xs3 xs4).1)

/-- Case C's pieces for scratch `arg6`, which the kernel carries between points, cover it: 3 pieces of `S512x2048` tiling it (Lib/Ring.lean `Piece.tiledL`). -/
theorem scover0_C_0 (c : Dev nD) (i : grid0.Coords) (arg1 : Memref sig .tc .vmem S1536x1024 .fp8e4m3) (harg1 : arg1.IsWhole) (arg2 : Memref sig .tc .vmem S2048x1024 .fp8e4m3) (harg2 : arg2.IsWhole) (arg3 : Memref sig .tc .vmem S1536x256 .i8) (harg3 : arg3.IsWhole) (arg4 : Memref sig .tc .vmem S2048x256 .i8) (harg4 : arg4.IsWhole) (arg5 : Memref sig .tc .vmem S1536x2048 .bf16) (harg5 : arg5.IsWhole) (arg6 : Memref sig .tc .vmem S1536x2048 .f32) (harg6 : arg6.IsWhole) (arg7 : Memref sig .tc .vmem S1536x1024 .bf16) (harg7 : arg7.IsWhole) (arg8 : Memref sig .tc .vmem S2048x1024 .bf16) (harg8 : arg8.IsWhole) (arg9 : Memref sig .tc .vmem S2x768x128 .i32) (harg9 : arg9.IsWhole) (arg10 : Memref sig .tc .vmem S2x1024x128 .i32) (harg10 : arg10.IsWhole) (hc0 : ¬cond0_0 i) (hc1 : cond0_1 i)
    (x0 : Vec F S1536x1024 .fp8e4m3) (x1 : Vec F S2048x1024 .fp8e4m3) (x2 : Vec F S1536x256 .i8) (x3 : Vec F S2048x256 .i8) (xs0 : Vec F S1536x2048 .f32) (xs3 : Vec F S2x768x128 .i32) (xs4 : Vec F S2x1024x128 .i32) (y : S1536x2048.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 xs0 xs3 xs4).2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 xs0 xs3 xs4).2.1 S512x2048.size (by sl_kernel_rfl) y

/-- What case C leaves in scratch `arg6`: its pieces read back over junk. -/
def sout0_C_0 (c : Dev nD) (i : grid0.Coords) (arg1 : Memref sig .tc .vmem S1536x1024 .fp8e4m3) (harg1 : arg1.IsWhole) (arg2 : Memref sig .tc .vmem S2048x1024 .fp8e4m3) (harg2 : arg2.IsWhole) (arg3 : Memref sig .tc .vmem S1536x256 .i8) (harg3 : arg3.IsWhole) (arg4 : Memref sig .tc .vmem S2048x256 .i8) (harg4 : arg4.IsWhole) (arg5 : Memref sig .tc .vmem S1536x2048 .bf16) (harg5 : arg5.IsWhole) (arg6 : Memref sig .tc .vmem S1536x2048 .f32) (harg6 : arg6.IsWhole) (arg7 : Memref sig .tc .vmem S1536x1024 .bf16) (harg7 : arg7.IsWhole) (arg8 : Memref sig .tc .vmem S2048x1024 .bf16) (harg8 : arg8.IsWhole) (arg9 : Memref sig .tc .vmem S2x768x128 .i32) (harg9 : arg9.IsWhole) (arg10 : Memref sig .tc .vmem S2x1024x128 .i32) (harg10 : arg10.IsWhole) (hc0 : ¬cond0_0 i) (hc1 : cond0_1 i)
    (x0 : Vec F S1536x1024 .fp8e4m3) (x1 : Vec F S2048x1024 .fp8e4m3) (x2 : Vec F S1536x256 .i8) (x3 : Vec F S2048x256 .i8) (xs0 : Vec F S1536x2048 .f32) (xs3 : Vec F S2x768x128 .i32) (xs4 : Vec F S2x1024x128 .i32) : Vec F S1536x2048 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 hc0 hc1 x0 x1 x2 x3 xs0 xs3 xs4).2.1)

/-- Case C stores nothing into scratch `arg9`: it holds what the point before left. -/
def sout0_C_3 (c : Dev nD) (i : grid0.Coords) (arg1 : Memref sig .tc .vmem S1536x1024 .fp8e4m3) (harg1 : arg1.IsWhole) (arg2 : Memref sig .tc .vmem S2048x1024 .fp8e4m3) (harg2 : arg2.IsWhole) (arg3 : Memref sig .tc .vmem S1536x256 .i8) (harg3 : arg3.IsWhole) (arg4 : Memref sig .tc .vmem S2048x256 .i8) (harg4 : arg4.IsWhole) (arg5 : Memref sig .tc .vmem S1536x2048 .bf16) (harg5 : arg5.IsWhole) (arg6 : Memref sig .tc .vmem S1536x2048 .f32) (harg6 : arg6.IsWhole) (arg7 : Memref sig .tc .vmem S1536x1024 .bf16) (harg7 : arg7.IsWhole) (arg8 : Memref sig .tc .vmem S2048x1024 .bf16) (harg8 : arg8.IsWhole) (arg9 : Memref sig .tc .vmem S2x768x128 .i32) (harg9 : arg9.IsWhole) (arg10 : Memref sig .tc .vmem S2x1024x128 .i32) (harg10 : arg10.IsWhole) (hc0 : ¬cond0_0 i) (hc1 : cond0_1 i)
    (x0 : Vec F S1536x1024 .fp8e4m3) (x1 : Vec F S2048x1024 .fp8e4m3) (x2 : Vec F S1536x256 .i8) (x3 : Vec F S2048x256 .i8) (xs0 : Vec F S1536x2048 .f32) (xs3 : Vec F S2x768x128 .i32) (xs4 : Vec F S2x1024x128 .i32) : Vec F S2x768x128 .i32 := xs3

/-- Case C stores nothing into scratch `arg10`: it holds what the point before left. -/
def sout0_C_4 (c : Dev nD) (i : grid0.Coords) (arg1 : Memref sig .tc .vmem S1536x1024 .fp8e4m3) (harg1 : arg1.IsWhole) (arg2 : Memref sig .tc .vmem S2048x1024 .fp8e4m3) (harg2 : arg2.IsWhole) (arg3 : Memref sig .tc .vmem S1536x256 .i8) (harg3 : arg3.IsWhole) (arg4 : Memref sig .tc .vmem S2048x256 .i8) (harg4 : arg4.IsWhole) (arg5 : Memref sig .tc .vmem S1536x2048 .bf16) (harg5 : arg5.IsWhole) (arg6 : Memref sig .tc .vmem S1536x2048 .f32) (harg6 : arg6.IsWhole) (arg7 : Memref sig .tc .vmem S1536x1024 .bf16) (harg7 : arg7.IsWhole) (arg8 : Memref sig .tc .vmem S2048x1024 .bf16) (harg8 : arg8.IsWhole) (arg9 : Memref sig .tc .vmem S2x768x128 .i32) (harg9 : arg9.IsWhole) (arg10 : Memref sig .tc .vmem S2x1024x128 .i32) (harg10 : arg10.IsWhole) (hc0 : ¬cond0_0 i) (hc1 : cond0_1 i)
    (x0 : Vec F S1536x1024 .fp8e4m3) (x1 : Vec F S2048x1024 .fp8e4m3) (x2 : Vec F S1536x256 .i8) (x3 : Vec F S2048x256 .i8) (xs0 : Vec F S1536x2048 .f32) (xs3 : Vec F S2x768x128 .i32) (xs4 : Vec F S2x1024x128 .i32) : Vec F S2x1024x128 .i32 := xs4

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1536x2048 .bf16 × Vec F S1536x2048 .f32 × Vec F S2x768x128 .i32 × Vec F S2x1024x128 .i32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 8 = 0 then
      if h1 : (n + 1) % 8 = 7 then
        False.elim (by have hN : n + 1 < 8 := lt_of_lt_of_eq hn (show cfg0.N = 8 from N_0); omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 8 = 0) (h1 : ¬t.val % 8 = 7) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t), sout0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t), sout0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 8 = 0) (h1 : ¬t.val % 8 = 7) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 8 = 0) (h1 : t.val % 8 = 7) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ (∃ d, owns (c : Thread nD τ) scM0_1 fullShare d) ∗ (∃ d, owns (c : Thread nD τ) scM0_2 fullShare d) ∗ owns (c : Thread nD τ) scM0_3 fullShare ((outsAt0 m c n hn).2.2.1) ∗ owns (c : Thread nD τ) scM0_4 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ (∃ d, owns (c : Thread nD τ) scM0_1 fullShare d) ∗ (∃ d, owns (c : Thread nD τ) scM0_2 fullShare d) ∗ owns (c : Thread nD τ) scM0_3 fullShare ((outsAt0 m c n hn).2.2.1) ∗ owns (c : Thread nD τ) scM0_4 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ (∃ d, owns (c : Thread nD τ) scM0_1 fullShare d) ∗ (∃ d, owns (c : Thread nD τ) scM0_2 fullShare d) ∗ owns (c : Thread nD τ) scM0_3 fullShare ((outsAt0 m c (n - 1) (by omega)).2.2.1) ∗ owns (c : Thread nD τ) scM0_4 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  by_cases h0 : t.val % 8 = 0
  · by_cases h1 : t.val % 8 = 7
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [Dat.leavesExact_idle (dats m 0 c) 4 t (idleAt0_4_A t ((hcond0_0 t).mpr h0) (fun h => h1 ((hcond0_1 t).mp h))) (noFlush0_4_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold sout0_A_0 sout0_A_3 sout0_A_4; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HS3]; · iexact HS3
        isplitl [HS4]; · iexact HS4
        iintro ⟨H0, H1, H2, H3, H4, ⟨%es0, HS0⟩, ⟨%fT1, HS1⟩, ⟨%fT2, HS2⟩, ⟨%es3, HS3⟩, ⟨%es4, HS4⟩⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            isplitl [HS1]
            · iexists _; unfold owns; iexists _; isplitr
              swap; · iexact HS1
              ipureintro; rfl
            isplitl [HS2]
            · iexists _; unfold owns; iexists _; isplitr
              swap; · iexact HS2
              ipureintro; rfl
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _ _ _ _)
            unfold owns; iexists _; isplitr
            swap; · iexact HS4
            ipureintro; exact View.read_writes_of_cover _ _ _ _ _ (scover0_A_4 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · exfalso; have hN : t.val < 8 := lt_of_lt_of_eq t.isLt (show cfg0.N = 8 from N_0); omega
  · by_cases h1 : t.val % 8 = 7
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4_C t (fun h => h0 ((hcond0_0 t).mp h)) ((hcond0_1 t).mpr h1)], after0_4]
      by_cases hz : t.val = 0
      · exfalso; have hN : t.val < 8 := lt_of_lt_of_eq t.isLt (show cfg0.N = 8 from N_0); omega
      · rw [PhiS_castSucc m c t, PhiS_pos m c _ _ hz]
        rw [outsAt0_C m c t h0 h1]
        unfold out0_C_4 sout0_C_0 sout0_C_3 sout0_C_4; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) _ _ _).2.2.2.2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        isplitl [HS3]; · iexact HS3
        isplitl [HS4]; · iexact HS4
        iintro ⟨H0, H1, H2, H3, ⟨%e4, H4⟩, ⟨%es0, HS0⟩, ⟨%fT1, HS1⟩, ⟨%fT2, HS2⟩, HS3, HS4⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _)
            isplitl [HS1]
            · iexists _; unfold owns; iexists _; isplitr
              swap; · iexact HS1
              ipureintro; rfl
            isplitl [HS2]
            · iexists _; unfold owns; iexists _; isplitr
              swap; · iexact HS2
              ipureintro; rfl
            isplitl [HS3]
            · iexact HS3
            iexact HS4
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      by_cases hz : t.val = 0
      · exfalso; have hN : t.val < 8 := lt_of_lt_of_eq t.isLt (show cfg0.N = 8 from N_0); omega
      · rw [PhiS_castSucc m c t, PhiS_pos m c _ _ hz]
        rw [outsAt0_B m c t h0 h1]
        unfold sout0_B_0 sout0_B_3 sout0_B_4; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _ _).2.2.2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HS3]; · iexact HS3
        isplitl [HS4]; · iexact HS4
        iintro ⟨H0, H1, H2, H3, H4, ⟨%es0, HS0⟩, ⟨%fT1, HS1⟩, ⟨%fT2, HS2⟩, HS3, HS4⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _)
            isplitl [HS1]
            · iexists _; unfold owns; iexists _; isplitr
              swap; · iexact HS1
              ipureintro; rfl
            isplitl [HS2]
            · iexists _; unfold owns; iexists _; isplitr
              swap; · iexact HS2
              ipureintro; rfl
            isplitl [HS3]
            · iexact HS3
            iexact HS4
          iexact Hg
        isplitl [Ho]; · iexact Ho
        isplitl [H0]; · iexact H0
        isplitl [H1]; · iexact H1
        isplitl [H2]; · iexact H2
        isplitl [H3]; · iexact H3
        iexists _; iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexact HS1
    isplitl [HS2]
    · iexact HS2
    isplitl [HS3]
    · iexists _; iexact HS3
    iexists _; iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Gen

end
-- ==== Proof.KernelIdeal.Step.lean ====
module

public import proofs.«01_k».proof.Proof.KernelIdeal.Acc
public import proofs.«01_k».proof.Proof.KernelIdeal.Pack
public import proofs.«01_k».proof.Proof.KernelIdeal.Frame

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Reading back what the accumulator was set to. -/
theorem read0 (X : Vec Ideal S1536x2048 .f32) (h : (Memref.whole (κ := .tc) cc0_scratch0).IsWhole) :
    View.read (Elt Ideal) (View.whole cc0_scratch0) (h.unread X) = X := h.read_unread X
/-- Reading back what the gradient's packed words were set to. -/
theorem read3 (X : Vec Ideal S2x768x128 .i32) (h : (Memref.whole (κ := .tc) cc0_scratch3).IsWhole) :
    View.read (Elt Ideal) (View.whole cc0_scratch3) (h.unread X) = X := h.read_unread X
/-- Reading back what the weight's packed words were set to. -/
theorem read4 (X : Vec Ideal S2x1024x128 .i32) (h : (Memref.whole (κ := .tc) cc0_scratch4).IsWhole) :
    View.read (Elt Ideal) (View.whole cc0_scratch4) (h.unread X) = X := h.read_unread X

/-- The product point `t` adds, when the packed words are `W` and `W'`. -/
def term (c : Dev nD) (t : Fin cfg0.N) (W : Vec Ideal S2x768x128 .i32) (W' : Vec Ideal S2x1024x128 .i32) (y : S1536x2048.Idx) : EReal :=
  part (fun y => deq (a := 1536) (b := 768) rfl (grid0.coords t 0) (iblk m c 0 t) W (y 0) (y 1))
    (fun y => deq (a := 2048) (b := 1024) rfl (grid0.coords t 0) (iblk m c 1 t) W' (y 0) (y 1)) y

set_option maxHeartbeats 4000000 in
/-- A middle point adds its product to the accumulator. -/
theorem acc_B (c : Dev nD) (t : Fin cfg0.N) (h0 : ¬ t.val % 8 = 0) (h1 : ¬ t.val % 8 = 7) :
    (outsAt0 m c t.val t.isLt).2.1 = fun y => (outsAt0 m c (t.val - 1) (by omega)).2.1 y
      + term m c t (outsAt0 m c (t.val - 1) (by omega)).2.2.1 (outsAt0 m c (t.val - 1) (by omega)).2.2.2 y := by
  rw [outsAt0_B m c t h0 h1]
  frame_out
  simp only [read0, read3, read4, View.readCov_eq_canon']
  rw [canon_piecesDy (grid0.coords t) (iblk m c 0 t) (outsAt0 m c (t.val - 1) (by omega)).2.2.1 _ ?hy,
    canon_piecesW (grid0.coords t) (iblk m c 1 t) (outsAt0 m c (t.val - 1) (by omega)).2.2.2 _ ?hw]
  case hy => rfl
  case hw => rfl
  exact canon_acc _ _ _ (fun n => View.ld (outsAt0 m c (t.val - 1) (by omega)).2.1 (rows n)) [] _ (fun n x => rfl) rfl

set_option maxHeartbeats 4000000 in
/-- So does the last point. -/
theorem acc_C (c : Dev nD) (t : Fin cfg0.N) (h0 : ¬ t.val % 8 = 0) (h1 : t.val % 8 = 7) :
    (outsAt0 m c t.val t.isLt).2.1 = fun y => (outsAt0 m c (t.val - 1) (by omega)).2.1 y
      + term m c t (outsAt0 m c (t.val - 1) (by omega)).2.2.1 (outsAt0 m c (t.val - 1) (by omega)).2.2.2 y := by
  rw [outsAt0_C m c t h0 h1]
  frame_out
  simp only [read0, read3, read4, View.readCov_eq_canon']
  rw [canon_piecesDy (grid0.coords t) (iblk m c 0 t) (outsAt0 m c (t.val - 1) (by omega)).2.2.1 _ ?hy,
    canon_piecesW (grid0.coords t) (iblk m c 1 t) (outsAt0 m c (t.val - 1) (by omega)).2.2.2 _ ?hw]
  case hy => rfl
  case hw => rfl
  exact canon_acc _ _ _ (fun n => View.ld (outsAt0 m c (t.val - 1) (by omega)).2.1 (rows n)) [] _ (fun n x => rfl) rfl

/-- The first point packs the scales of its blocks. -/
theorem words_A (c : Dev nD) (t : Fin cfg0.N) (h0 : t.val % 8 = 0) (h1 : ¬ t.val % 8 = 7) :
    (outsAt0 m c t.val t.isLt).2.2.1 = wordsDy (iblk m c 2 t) ∧ (outsAt0 m c t.val t.isLt).2.2.2 = wordsW (iblk m c 3 t) := by
  rw [outsAt0_A m c t h0 h1]
  refine ⟨?_, ?_⟩ <;> frame_out <;> rfl

set_option maxHeartbeats 8000000 in
/-- The first point starts from zero, with the words it has just packed. -/
theorem acc_A (c : Dev nD) (t : Fin cfg0.N) (h0 : t.val % 8 = 0) (h1 : ¬ t.val % 8 = 7) :
    (outsAt0 m c t.val t.isLt).2.1 = fun y => (0 : EReal)
      + term m c t (wordsDy (iblk m c 2 t)) (wordsW (iblk m c 3 t)) y := by
  rw [outsAt0_A m c t h0 h1]
  frame_out
  simp only [View.readCov_eq_canon']
  rw [canon_piecesDy (grid0.coords t) (iblk m c 0 t) (wordsDy (iblk m c 2 t)) _ ?hy,
    canon_piecesW (grid0.coords t) (iblk m c 1 t) (wordsW (iblk m c 3 t)) _ ?hw]
  case hy => rfl
  case hw => rfl
  exact canon_first _ _ _ rfl

end Cert.KernelIdeal.Value
-- ==== Proof.KernelIdeal.Value.lean ====
module

public import proofs.«01_k».proof.Proof.KernelIdeal.Step

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

attribute [local irreducible] outsAt0

/-- A point after the first leaves the packed words as they were. -/
theorem words_step (c : Dev nD) (t : Fin cfg0.N) (h0 : ¬ t.val % 8 = 0) :
    (outsAt0 m c t.val t.isLt).2.2.1 = (outsAt0 m c (t.val - 1) (by omega)).2.2.1
      ∧ (outsAt0 m c t.val t.isLt).2.2.2 = (outsAt0 m c (t.val - 1) (by omega)).2.2.2 := by
  by_cases h1 : t.val % 8 = 7
  · rw [outsAt0_C m c t h0 h1]; exact ⟨rfl, rfl⟩
  · rw [outsAt0_B m c t h0 h1]; exact ⟨rfl, rfl⟩

/-- The only point whose number is a multiple of eight is the first. -/
theorem eq_first (t : Fin cfg0.N) (h0 : t.val % 8 = 0) : t = t0_0 :=
  Fin.ext (by have := lt_of_lt_of_eq t.isLt N_0; show t.val = 0; omega)

/-- At every point they are the packed scales. -/
theorem words (c : Dev nD) (n : ℕ) : ∀ h : n < cfg0.N,
    (outsAt0 m c n h).2.2.1 = wordsDy (iblk m c 2 t0_0) ∧ (outsAt0 m c n h).2.2.2 = wordsW (iblk m c 3 t0_0) := by
  induction n with
  | zero =>
    intro h
    have e := words_A m c ⟨0, h⟩ rfl (by show ¬ 0 % 8 = 7; omega)
    rw [eq_first ⟨0, h⟩ rfl] at e
    exact e
  | succ n ih =>
    intro h
    have hN : n + 1 < 8 := lt_of_lt_of_eq h N_0
    have e := words_step m c ⟨n + 1, h⟩ (by show ¬ (n + 1) % 8 = 0; omega)
    have e' := ih (Nat.lt_of_succ_lt h)
    exact ⟨e.1.trans e'.1, e.2.trans e'.2⟩

/-- The product point `t` adds. -/
def part0 (c : Dev nD) (t : Fin cfg0.N) (y : S1536x2048.Idx) : EReal :=
  term m c t (wordsDy (iblk m c 2 t0_0)) (wordsW (iblk m c 3 t0_0)) y

/-- The accumulator at the first point is the first product. -/
theorem acc_zero (c : Dev nD) (t : Fin cfg0.N) (h0 : t.val % 8 = 0) (y : S1536x2048.Idx) :
    (outsAt0 m c t.val t.isLt).2.1 y = (0 : EReal) + part0 m c t y := by
  have e := congrFun (acc_A m c t h0 (by omega)) y
  unfold part0
  rw [← eq_first t h0]
  exact e

/-- At each later point its product is added. -/
theorem acc_step (c : Dev nD) (t : Fin cfg0.N) (h0 : ¬ t.val % 8 = 0) (y : S1536x2048.Idx) :
    (outsAt0 m c t.val t.isLt).2.1 y = (outsAt0 m c (t.val - 1) (by omega)).2.1 y + part0 m c t y := by
  have hw := words m c (t.val - 1) (by omega)
  unfold part0
  rw [← hw.1, ← hw.2]
  by_cases h1 : t.val % 8 = 7
  · exact congrFun (acc_C m c t h0 h1) y
  · exact congrFun (acc_B m c t h0 h1) y

/-- What the last point writes out of an accumulator's pieces is what they hold. -/
theorem out_eq (L : List (View.Piece (Elt Ideal) S1536x2048 .f32)) (y : S1536x2048.Idx) :
    (k0_pay2 (F := Ideal) ((View.whole cc0_scratch0).readCov L (Rect.unit (s := S1536x2048) ![0, 0] ![1536, 2048] inb_S1536x2048_S1536x2048_0_0).toLoadRect) y : EReal)
      = View.canon L y := by
  rw [View.readCov_eq_canon']
  refine congrArg (View.canon L) (funext fun a => Fin.ext ?_)
  match a with
  | 0 => show 0 + 1 * (y 0).val = (y 0).val; omega
  | 1 => show 0 + 1 * (y 1).val = (y 1).val; omega

/-- The last point writes the accumulator out. -/
theorem out_C (c : Dev nD) (t : Fin cfg0.N) (h0 : ¬ t.val % 8 = 0) (h1 : t.val % 8 = 7) (y : S1536x2048.Idx) :
    ((outsAt0 m c t.val t.isLt).1 y : EReal) = (outsAt0 m c t.val t.isLt).2.1 y := by
  rw [outsAt0_C m c t h0 h1]
  frame_out
  exact out_eq _ y

/-- Where the windows lie. -/
theorem idx : ∀ t : Fin cfg0.N, win0_0.index t = ![0, t.val] ∧ win0_1.index t = ![0, t.val] ∧ win0_2.index t = ![0, 0] ∧ win0_3.index t = ![0, 0] ∧ (grid0.coords t 0).val = t.val :=
  (by decide +kernel : ∀ t : Fin grid0.N, win0_0.index t = ![0, t.val] ∧ win0_1.index t = ![0, t.val] ∧ win0_2.index t = ![0, 0] ∧ win0_3.index t = ![0, 0] ∧ (grid0.coords t 0).val = t.val)

/-- Point `t`'s block of the gradient. -/
theorem iblk_0 (c : Dev nD) (t : Fin cfg0.N) (r : Fin 1536) (k : Fin 1024) (l : Fin 8192) (hl : l.val = t.val * 1024 + k.val) :
    (iblk m c 0 t (ix2 r k) : EReal) = V m c main_v0 (ix2 r l) := by
  blk_point [iblk, idx t]

/-- Point `t`'s block of the weight. -/
theorem iblk_1 (c : Dev nD) (t : Fin cfg0.N) (r : Fin 2048) (k : Fin 1024) (l : Fin 8192) (hl : l.val = t.val * 1024 + k.val) :
    (iblk m c 1 t (ix2 r k) : EReal) = V m c main_arg2 (ix2 r l) := by
  blk_point [iblk, idx t]

/-- The gradient's scales are staged whole. -/
theorem iblk_2 (c : Dev nD) (t : Fin cfg0.N) (r : Fin 1536) (k : Fin 256) :
    (iblk m c 2 t (ix2 r k) : BitVec 8) = V m c main_v1 (ix2 r k) := by
  blk_point [iblk, idx t]

/-- The weight's scales are staged whole. -/
theorem iblk_3 (c : Dev nD) (t : Fin cfg0.N) (r : Fin 2048) (k : Fin 256) :
    (iblk m c 3 t (ix2 r k) : BitVec 8) = V m c main_arg3 (ix2 r k) := by
  blk_point [iblk, idx t]

/-- A dequantised block over packed scales. -/
theorem deq_word {a b : ℕ} (hab : a = 2 * b) (k : Fin 8) (D : (⟨2, ![a, 1024]⟩ : Shape).Idx → EReal) (S : (⟨2, ![a, 256]⟩ : Shape).Idx → BitVec 8)
    (r : Fin a) (l : Fin 1024) (g : Fin 256) (hg : g.val = (k.val * 1024 + l.val) / 32) :
    deq hab k D (word hab S) r l = D (ix2 r l) * Scale.scale (S (ix2 r g)) := by
  unfold deq
  rw [half_word hab S r ⟨k.val / 4, by omega⟩ ⟨32 * (k.val % 4) + l.val / 32, by omega⟩]
  refine congrArg (fun i => D (ix2 r l) * Scale.scale (S (ix2 r i))) (Fin.ext ?_)
  show 128 * (k.val / 4) + (32 * (k.val % 4) + l.val / 32) = g.val
  omega

/-- The output array after the run. -/
theorem final (c : Dev nD) : (dats m 0 c).arrAt 4 (cfgs 0).N
    = Scale.dgrad (V m c main_v0) (V m c main_v1) (V m c main_arg2) (V m c main_arg3) := by
  refine (dats m 0 c).arrAt_eq_of_after_last 4 t0_7 (by decide +kernel) _ fun j => ?_
  blk_simp
  rw [after0_4]
  refine (out_C m c t0_7 (by decide) rfl j).trans ?_
  rw [Pipeline.eq_sum_fin_of_reset_step_apply_last (fun n h => (outsAt0 m c n h).2.1) 8 (fun _ => (0 : EReal))
    (fun t j => part0 m c t j)
    (fun t h j => acc_zero m c t h j) (fun t h j => acc_step m c t h j) (le_of_eq N_0) t0_7 rfl j, zero_add]
  unfold part0 term part Scale.dgrad
  rw [wordsDy_eq, wordsW_eq]
  refine Fin.sum_mul_add_congr fun t k hl => ?_
  have hk : (grid0.coords t 0).val = t.val := (idx t).2.2.2.2
  have ht : t.val < 8 := lt_of_lt_of_eq t.isLt N_0
  refine congrArg₂ (· * ·) ?_ ?_
  · refine (deq_word (a := 1536) (b := 768) rfl _ _ _ _ k ⟨(t.val * 1024 + k.val) / 32, by omega⟩ ?_).trans ?_
    · show _ = ((grid0.coords t 0).val * 1024 + k.val) / 32
      rw [hk]
    · exact congrArg₂ (fun x e => x * Scale.scale e) (iblk_0 m c t _ k _ rfl) (iblk_2 m c t0_0 _ _)
  · refine (deq_word (a := 2048) (b := 1024) rfl _ _ _ _ k ⟨(t.val * 1024 + k.val) / 32, by omega⟩ ?_).trans ?_
    · show _ = ((grid0.coords t 0).val * 1024 + k.val) / 32
      rw [hk]
    · exact congrArg₂ (fun x e => x * Scale.scale e) (iblk_1 m c t _ k _ rfl) (iblk_3 m c t0_0 _ _)

end Cert.KernelIdeal.Value
-- ==== Proof.KernelIdeal.Result.lean ====
module

public import proofs.«01_k».proof.Proof.KernelIdeal.Value

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The kernel reads the gradient with its two leading axes merged. -/
theorem V_main_v0 (c : Dev nD) :
    V m c main_v0 = shapeCast S1536x8192 (m ((c : Thread nD τ).loc main_arg0)) shapeCasts_S3x512x8192_S1536x8192 := by
  show StableHlo.after [_, _] _ (Proc.devRef .tc main_v0) = _
  after_results
  rfl

/-- The kernel reads the gradient's scales with their two leading axes merged. -/
theorem V_main_v1 (c : Dev nD) :
    V m c main_v1 = shapeCast S1536x256 (m ((c : Thread nD τ).loc main_arg1)) shapeCasts_S3x512x256_S1536x256 := by
  show StableHlo.after [_, _] _ (Proc.devRef .tc main_v1) = _
  after_results
  rfl

/-- The result is the kernel's output array with its leading axis split. -/
theorem W_main_v3 (c : Dev nD) :
    Pipeline.afterTail₀ cfgs (dats m) 0 (V0 m) [hostOps1] c main_v3
      = shapeCast S3x512x2048 ((dats m 0 c).arrAt 4 (cfgs 0).N) shapeCasts_S1536x2048_S3x512x2048 := by
  unfold Pipeline.afterTail₀
  show StableHlo.after [_] _ (Proc.devRef .tc main_v3) = _
  after_results
  exact congrArg (fun A => shapeCast S3x512x2048 A shapeCasts_S1536x2048_S3x512x2048)
    (Pipeline.withArrays_arr spec0 (by decide) c (V0 m c) (fun w => (dats m 0 c).arrAt w (cfgs 0).N) 4)

/-- Every run of the kernel ends with the block-scaled product of its arguments as result, and its arguments unchanged. -/
theorem run : θ_run defs (onTc (τ := τ) (main (F := Ideal))) ⟨m, fun _ => 0, ρ⟩ (fun r => ∀ c : Dev nD,
      r.2.mem ((c.tc : Thread nD τ).loc main_v3) = Scale.result (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨?_, h.2 c⟩) (θ_run_and (run_main m ρ) (unchanged m ρ))
  refine ((h.1 c).2 main_v3 (Pipeline.mem_restRefs_of main_v3 (by decide) (by decide))).trans ?_
  rw [W_main_v3, final, V_main_v0, V_main_v1, V_main_arg2, V_main_arg3]
  rfl

end Cert.KernelIdeal.Value
-- ==== Proof.ReferenceIdeal.Value.lean ====
module

public import proofs.«01_k».proof.Proof.Gen.ReferenceIdeal.Frame
public import proofs.«01_k».proof.Proof.Scale

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The reference's whole computation, at one index, is the block-scaled product. -/
theorem pay (D : Vec Ideal S1536x8192 .fp8e4m3) (S : Vec Ideal S1536x256 .i8) (W : Vec Ideal S2048x8192 .fp8e4m3)
    (T : Vec Ideal S2048x256 .i8) (y : S1536x2048.Idx) : k0_pay1 (F := Ideal) D S W T y = Scale.dgrad D S W T y := by
  pointwise [k0_pay1]
  exact Finset.sum_congr rfl fun l _ => congrArg₂ (· * ·) (congrArg (D (ix2 (y 0) l) * ·) (Scale.exp2_decode _))
    (congrArg (W (ix2 (y 1) l) * ·) (Scale.exp2_decode _))

/-- Every window is staged whole: its block starts at the array's first index. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, win0_0.index t = ![0, 0] ∧ win0_1.index t = ![0, 0] ∧ win0_2.index t = ![0, 0] ∧ win0_3.index t = ![0, 0])

/-- The gradient is staged whole. -/
theorem iblk_0 (c : Dev nD) (t : Fin cfg0.N) (r : Fin 1536) (l : Fin 8192) : (iblk m c 0 t (ix2 r l) : EReal) = V m c main_v0 (ix2 r l) := by
  blk_point [iblk, idx t]

/-- The gradient's scales are staged whole. -/
theorem iblk_1 (c : Dev nD) (t : Fin cfg0.N) (r : Fin 1536) (g : Fin 256) : (iblk m c 1 t (ix2 r g) : BitVec 8) = V m c main_v1 (ix2 r g) := by
  blk_point [iblk, idx t]

/-- The weight is staged whole. -/
theorem iblk_2 (c : Dev nD) (t : Fin cfg0.N) (r : Fin 2048) (l : Fin 8192) : (iblk m c 2 t (ix2 r l) : EReal) = V m c main_arg2 (ix2 r l) := by
  blk_point [iblk, idx t]

/-- The weight's scales are staged whole. -/
theorem iblk_3 (c : Dev nD) (t : Fin cfg0.N) (r : Fin 2048) (g : Fin 256) : (iblk m c 3 t (ix2 r g) : BitVec 8) = V m c main_arg3 (ix2 r g) := by
  blk_point [iblk, idx t]

/-- The output array after the run. -/
theorem final (c : Dev nD) : (dats m 0 c).arrAt 4 (cfgs 0).N
    = Scale.dgrad (V m c main_v0) (V m c main_v1) (V m c main_arg2) (V m c main_arg3) := by
  refine (dats m 0 c).arrAt_eq_of_after_last 4 t0_0 (by decide +kernel) _ fun j => ?_
  blk_simp
  rw [after0_4]
  unfold out0_4
  frame_out
  refine (pay _ _ _ _ j).trans ?_
  unfold Scale.dgrad
  exact Finset.sum_congr rfl fun l _ => congrArg₂ (· * ·)
    (congrArg₂ (fun x e => x * Scale.scale e) (iblk_0 m c t0_0 _ _) (iblk_1 m c t0_0 _ _))
    (congrArg₂ (fun x e => x * Scale.scale e) (iblk_2 m c t0_0 _ _) (iblk_3 m c t0_0 _ _))

/-- The reference reads the gradient with its two leading axes merged. -/
theorem V_main_v0 (c : Dev nD) :
    V m c main_v0 = shapeCast S1536x8192 (m ((c : Thread nD τ).loc main_arg0)) shapeCasts_S3x512x8192_S1536x8192 := by
  show StableHlo.after [_, _] _ (Proc.devRef .tc main_v0) = _
  after_results
  rfl

/-- The reference reads the gradient's scales with their two leading axes merged. -/
theorem V_main_v1 (c : Dev nD) :
    V m c main_v1 = shapeCast S1536x256 (m ((c : Thread nD τ).loc main_arg1)) shapeCasts_S3x512x256_S1536x256 := by
  show StableHlo.after [_, _] _ (Proc.devRef .tc main_v1) = _
  after_results
  rfl

/-- The result is the reference's output array with its leading axis split. -/
theorem W_main_v3 (c : Dev nD) :
    Pipeline.afterTail₀ cfgs (dats m) 0 (V0 m) [hostOps1] c main_v3
      = shapeCast S3x512x2048 ((dats m 0 c).arrAt 4 (cfgs 0).N) shapeCasts_S1536x2048_S3x512x2048 := by
  unfold Pipeline.afterTail₀
  show StableHlo.after [_] _ (Proc.devRef .tc main_v3) = _
  after_results
  exact congrArg (fun A => shapeCast S3x512x2048 A shapeCasts_S1536x2048_S3x512x2048)
    (Pipeline.withArrays_arr spec0 (by decide) c (V0 m c) (fun w => (dats m 0 c).arrAt w (cfgs 0).N) 4)

/-- Every run of the reference ends with the block-scaled product of its arguments as result, and its arguments unchanged. -/
theorem run : θ_run defs (onTc (τ := τ) (main (F := Ideal))) ⟨m, fun _ => 0, ρ⟩ (fun r => ∀ c : Dev nD,
      r.2.mem ((c.tc : Thread nD τ).loc main_v3) = Scale.result (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨?_, h.2 c⟩) (θ_run_and (run_main m ρ) (unchanged m ρ))
  refine ((h.1 c).2 main_v3 (Pipeline.mem_restRefs_of main_v3 (by decide) (by decide))).trans ?_
  rw [W_main_v3, final, V_main_v0, V_main_v1, V_main_arg2, V_main_arg3]
  rfl

end Cert.ReferenceIdeal.Value
-- ==== Proof.lean ====
module

public import proofs.«01_k».proof.Defs
public import proofs.«01_k».proof.Proof.Kernel.Frame
public import proofs.«01_k».proof.Proof.KernelIdeal.Result
public import proofs.«01_k».proof.Proof.ReferenceIdeal.Value
public import Idealize.ShloMosaic.Adequacy
public import Idealize.ShloMosaic.Init

@[expose] public section

noncomputable section

namespace Cert.Proof

open Idealize.ShloMosaic Idealize.SL.Sem

/-- Over the extended reals the kernel and the reference, run from the same arguments, end with the same result: the
    block-scaled product. -/
theorem algebraic : @Cert.algebraic_KernelIdeal_ReferenceIdeal Cert.KernelIdeal.Gen.facts Cert.ReferenceIdeal.Gen.facts :=
  fun m g m' g' _ h => ⟨_, Cert.KernelIdeal.Value.run m g,
    (θ_run _ _ _).mono (fun r hr c => ⟨(hr c).1.trans (by rw [(h c).1, (h c).2.1, (h c).2.2.1, (h c).2.2.2]), (hr c).2⟩)
      (Cert.ReferenceIdeal.Value.run m' g')⟩

/-- The claims of the certificate, one after the other. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
